-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_scores_ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x256x512 .bf16) (main_arg1 : FVec F S512x256 .bf16) (main_arg2 : FVec F S2x1024x4x64 .bf16) (main_arg3 : FVec F S2x1024x4x64 .bf16) (main_arg4 : FVec F S256x512 .bf16) : IVec S2x256x512 1 × IVec S512x256 1 × IVec S2x1024x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x1024x4x64 .bf16 := Host.absf main_arg2
  let main_cst_1 : FVec F S_ .bf16 := constant S_ .bf16 0x7F80#16
  let main_v7 : FVec F S2x1024x4x64 .bf16 := broadcastInDim S2x1024x4x64 ![] bcast_S_S2x1024x4x64 main_cst_1
  let main_v8 : IVec S2x1024x4x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S8 : Shape := ⟨1, ![8]⟩
abbrev S2 : Shape := ⟨1, ![2]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x512 : Shape := ⟨3, ![1, 256, 512]⟩
abbrev S256x64 : Shape := ⟨2, ![256, 64]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x256, .bf16⟩
  | .hbm, ⟨6, _⟩ => ⟨S2x256x256, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .f32⟩
  | .local _ .vmem, ⟨6, _⟩ => ⟨S2x256x256, .bf16⟩
  | .local _ .vmem, ⟨7, _⟩ => ⟨S2x256x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_20 : BitVec 32 := 0#32
  let v31 : BitVec 1 := Scalar.cmpi .eq v2 c0_i32_20
  let v32 : BitVec 32 := Scalar.extui v31
  let c0_i32_21 : BitVec 32 := 0#32
  let v33 : BitVec 1 := Scalar.cmpi .ne v32 c0_i32_21
  v33

def k0_dev3 : Nat :=
  let c0_i32_130 : BitVec 32 := 0#32
  let c1_i32_128 : BitVec 32 := 1#32
  let c1_i32_129 : BitVec 32 := 1#32
  let v271 : BitVec 32 := Scalar.muli c1_i32_128 c1_i32_129
  let v272 : BitVec 32 := Scalar.addi c0_i32_130 v271
  v272.toNat
def k0_dev4 : Nat :=
  let c0_i32_141 : BitVec 32 := 0#32
  let c1_i32_139 : BitVec 32 := 1#32
  let c1_i32_140 : BitVec 32 := 1#32
  let v281 : BitVec 32 := Scalar.muli c1_i32_139 c1_i32_140
  let v282 : BitVec 32 := Scalar.addi c0_i32_141 v281
  v282.toNat
def k0_dev5 : Nat :=
  let c0_i32_152 : BitVec 32 := 0#32
  let c3_i32_150 : BitVec 32 := 3#32
  let c1_i32_151 : BitVec 32 := 1#32
  let v291 : BitVec 32 := Scalar.muli c3_i32_150 c1_i32_151
  let v292 : BitVec 32 := Scalar.addi c0_i32_152 v291
  v292.toNat
def k0_dev6 : Nat :=
  let c0_i32_163 : BitVec 32 := 0#32
  let c3_i32_161 : BitVec 32 := 3#32
  let c1_i32_162 : BitVec 32 := 1#32
  let v301 : BitVec 32 := Scalar.muli c3_i32_161 c1_i32_162
  let v302 : BitVec 32 := Scalar.addi c0_i32_163 v301
  v302.toNat
def k0_dev7 : Nat :=
  let c0_i32_174 : BitVec 32 := 0#32
  let c1_i32_172 : BitVec 32 := 1#32
  let c1_i32_173 : BitVec 32 := 1#32
  let v311 : BitVec 32 := Scalar.muli c1_i32_172 c1_i32_173
  let v312 : BitVec 32 := Scalar.addi c0_i32_174 v311
  v312.toNat
def k0_dev8 : Nat :=
  let c0_i32_184 : BitVec 32 := 0#32
  let c1_i32_182 : BitVec 32 := 1#32
  let c1_i32_183 : BitVec 32 := 1#32
  let v321 : BitVec 32 := Scalar.muli c1_i32_182 c1_i32_183
  let v322 : BitVec 32 := Scalar.addi c0_i32_184 v321
  v322.toNat
def k0_dev9 : Nat :=
  let c0_i32_194 : BitVec 32 := 0#32
  let c3_i32_192 : BitVec 32 := 3#32
  let c1_i32_193 : BitVec 32 := 1#32
  let v331 : BitVec 32 := Scalar.muli c3_i32_192 c1_i32_193
  let v332 : BitVec 32 := Scalar.addi c0_i32_194 v331
  v332.toNat
def k0_dev10 : Nat :=
  let c0_i32_204 : BitVec 32 := 0#32
  let c3_i32_202 : BitVec 32 := 3#32
  let c1_i32_203 : BitVec 32 := 1#32
  let v341 : BitVec 32 := Scalar.muli c3_i32_202 c1_i32_203
  let v342 : BitVec 32 := Scalar.addi c0_i32_204 v341
  v342.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v99 : BitVec 1 := Scalar.cmpi .eq v2 c1_i32_46
  let v100 : BitVec 32 := Scalar.extui v99
  let c0_i32_47 : BitVec 32 := 0#32
  let v101 : BitVec 1 := Scalar.cmpi .ne v100 c0_i32_47
  v101

def k0_dev11 : Nat :=
  let c0_i32_141 : BitVec 32 := 0#32
  let c2_i32_139 : BitVec 32 := 2#32
  let c1_i32_140 : BitVec 32 := 1#32
  let v279 : BitVec 32 := Scalar.muli c2_i32_139 c1_i32_140
  let v280 : BitVec 32 := Scalar.addi c0_i32_141 v279
  v280.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v102 : BitVec 1 := Scalar.cmpi .eq v2 c3_i32
  let v103 : BitVec 32 := Scalar.extui v102
  let c0_i32_48 : BitVec 32 := 0#32
  let v104 : BitVec 1 := Scalar.cmpi .ne v103 c0_i32_48
  v104

def k0_dev12 : Nat :=
  let c0_i32_141 : BitVec 32 := 0#32
  let c2_i32_139 : BitVec 32 := 2#32
  let c1_i32_140 : BitVec 32 := 1#32
  let v279 : BitVec 32 := Scalar.muli c2_i32_139 c1_i32_140
  let v280 : BitVec 32 := Scalar.addi c0_i32_141 v279
  v280.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_66 : BitVec 32 := 1#32
  let v158 : BitVec 1 := Scalar.cmpi .eq v2 c1_i32_66
  let v159 : BitVec 32 := Scalar.extui v158
  let c0_i32_67 : BitVec 32 := 0#32
  let v160 : BitVec 1 := Scalar.cmpi .ne v159 c0_i32_67
  v160

def k0_dev13 : Nat :=
  let c0_i32_141 : BitVec 32 := 0#32
  let c2_i32_139 : BitVec 32 := 2#32
  let c1_i32_140 : BitVec 32 := 1#32
  let v279 : BitVec 32 := Scalar.muli c2_i32_139 c1_i32_140
  let v280 : BitVec 32 := Scalar.addi c0_i32_141 v279
  v280.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_68 : BitVec 32 := 3#32
  let v161 : BitVec 1 := Scalar.cmpi .eq v2 c3_i32_68
  let v162 : BitVec 32 := Scalar.extui v161
  let c0_i32_69 : BitVec 32 := 0#32
  let v163 : BitVec 1 := Scalar.cmpi .ne v162 c0_i32_69
  v163

def k0_dev14 : Nat :=
  let c0_i32_141 : BitVec 32 := 0#32
  let c2_i32_139 : BitVec 32 := 2#32
  let c1_i32_140 : BitVec 32 := 1#32
  let v279 : BitVec 32 := Scalar.muli c2_i32_139 c1_i32_140
  let v280 : BitVec 32 := Scalar.addi c0_i32_141 v279
  v280.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x1024x4x64, .bf16⟩
  | .hbm, ⟨3, _⟩ => ⟨S2x1024x4x64, .bf16⟩
  | .hbm, ⟨4, _⟩ => ⟨S256x512, .bf16⟩
  | .hbm, ⟨5, _⟩ => ⟨S2x256x512, .f32⟩
  | .hbm, ⟨6, _⟩ => ⟨S512x256, .f32⟩
  | .hbm, ⟨7, _⟩ => ⟨S2x1024x4x64, .f32⟩
  | .hbm, ⟨8, _⟩ => ⟨S2x1024x4x64, .f32⟩
  | .hbm, ⟨9, _⟩ => ⟨S256x512, .f32⟩
  | .hbm, ⟨10, _⟩ => ⟨S2x256x256, .f32⟩
  | .hbm, ⟨11, _⟩ => ⟨S2x256x4x64, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1x1024, .i32⟩
  | .hbm, ⟨52, _⟩ => ⟨S256x1024, .i32⟩
  | .hbm, ⟨53, _⟩ => ⟨S256x1024, .i32⟩
  | .hbm, ⟨54, _⟩ => ⟨S256x1024, .i1⟩
  | .hbm, ⟨55, _⟩ => ⟨S2x4x256x1024, .f32⟩
  | .hbm, ⟨56, _⟩ => ⟨S_, .f32⟩
  | .hbm, ⟨57, _⟩ => ⟨S2x4x256x1024, .f32⟩
  | .hbm, ⟨58, _⟩ => ⟨S2x4x256x1024, .f32⟩
  | .hbm, ⟨59, _⟩ => ⟨S1x1x256x1024, .i1⟩
  | .hbm, ⟨60, _⟩ => ⟨S_, .f32⟩
  | .hbm, ⟨61, _⟩ => ⟨S_, .f32⟩
  | .hbm, ⟨62, _⟩ => ⟨S2x4x256x1024, .i1⟩
  | .hbm, ⟨63, _⟩ => ⟨S2x4x256x1024, .f32⟩
  | .hbm, ⟨64, _⟩ => ⟨S2x4x256x1024, .f32⟩
  | .hbm, ⟨65, _⟩ => ⟨S_, .f32⟩
  | .hbm, ⟨66, _⟩ => ⟨S2x4x256, .f32⟩
  | .hbm, ⟨67, _⟩ => ⟨S2x4x256x1, .f32⟩
  | .hbm, ⟨68, _⟩ => ⟨S2x4x256x1024, .f32⟩
  | .hbm, ⟨69, _⟩ => ⟨S2x4x256x1024, .f32⟩
  | .hbm, ⟨70, _⟩ => ⟨S2x4x256x1024, .f32⟩
  | .hbm, ⟨71, _⟩ => ⟨S_, .i1⟩
  | .hbm, ⟨72, _⟩ => ⟨S256, .i1⟩
  | .hbm, ⟨73, _⟩ => ⟨S1x1x256x1, .i1⟩
  | .hbm, ⟨74, _⟩ => ⟨S_, .f32⟩
  | .hbm, ⟨75, _⟩ => ⟨S2x4x256, .f32⟩
  | .hbm, ⟨76, _⟩ => ⟨S2x4x256x1, .f32⟩
  | .hbm, ⟨77, _⟩ => ⟨S_, .f32⟩
  | .hbm, ⟨78, _⟩ => ⟨S_, .f32⟩
  | .hbm, ⟨79, _⟩ => ⟨S2x4x256x1, .i1⟩
  | .hbm, ⟨80, _⟩ => ⟨S2x4x256x1, .f32⟩
  | .hbm, ⟨81, _⟩ => ⟨S2x4x256x1, .f32⟩
  | .hbm, ⟨82, _⟩ => ⟨S2x4x256x1024, .f32⟩
  | .hbm, ⟨83, _⟩ => ⟨S2x4x256x1024, .f32⟩
  | .hbm, ⟨84, _⟩ => ⟨S1x1x256x1, .i1⟩
  | .hbm, ⟨85, _⟩ => ⟨S_, .f32⟩
  | .hbm, ⟨86, _⟩ => ⟨S_, .f32⟩
  | .hbm, ⟨87, _⟩ => ⟨S2x4x256x1024, .i1⟩
  | .hbm, ⟨88, _⟩ => ⟨S2x4x256x1024, .f32⟩
  | .hbm, ⟨89, _⟩ => ⟨S2x4x256x1024, .f32⟩
  | .hbm, ⟨90, _⟩ => ⟨S2x4x64x256, .f32⟩
  | .hbm, ⟨91, _⟩ => ⟨S2x256x4x64, .f32⟩
  | .hbm, ⟨92, _⟩ => ⟨S2x256x256, .f32⟩
  | .hbm, ⟨93, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Protocol.lean ====
/-
  The exchange of the key and value blocks among the four devices: which semaphore is credited by whom, what each
  credit hands over, what every device owes at launch, and the order in which the semaphores may be waited on.

  Device 0 sends its two key chunks and its two value chunks (one per batch entry) to devices 1 and 3; device 1
  forwards the key chunks to device 2, device 3 the value chunks. Before any copy every device signals its two
  neighbours once and waits for two signals: a signal hands the neighbour the landing chunks it will write.
-/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The exchange's rounds name a duty by the device that pays it. -/
abbrev UX : Type := URounds (GSem nD τ sig) (Dev nD)
/-- The staging library's copy and the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## Semaphores and cells -/

abbrev barS : Sem sig := (SemArray.scalar (sig.barrier 0 rfl) : Sems sig S_).sem
/-- The kernel's own DMA semaphores: 0–7 departures, 8–9 arrivals of key chunks, 10–11 arrivals of value chunks. -/
abbrev xS (k : Fin 12) : DmaSem sig := ⟨6 + k.val, by have := k.isLt; show 6 + k.val < 18; omega⟩
abbrev osem (k : Fin 12) : SemLoc sig := .dma (xS k)

abbrev barCell (c : Dev nD) : GSem nD τ sig := ((c : Thread nD τ), .reg barS)
abbrev xCell (c : Dev nD) (k : Fin 12) : GSem nD τ sig := ((c : Thread nD τ), osem k)

/-! ## Chunks -/

abbrev kM : Memref sig .tc .vmem S2x256x256 .bf16 := Memref.whole cc0_scratch0
abbrev vM : Memref sig .tc .vmem S2x256x256 .bf16 := Memref.whole cc0_scratch1
abbrev skM : Memref sig .tc .vmem S2x256x256 .bf16 := Memref.whole cc0_stg2_0
abbrev svM : Memref sig .tc .vmem S2x256x256 .bf16 := Memref.whole cc0_stg3_0

abbrev ch0 (M : Memref sig .tc .vmem S2x256x256 .bf16) : Memref sig .tc .vmem S256x256 .bf16 :=
  (M.slice (Rect.unit (s := S2x256x256) ![0, 0, 0] S1x256x256.size inb_S2x256x256_S1x256x256_0_0_0) (fun _ => rfl)).squeeze S256x256 squeezes_S1x256x256_S256x256
abbrev ch1 (M : Memref sig .tc .vmem S2x256x256 .bf16) : Memref sig .tc .vmem S256x256 .bf16 :=
  (M.slice (Rect.unit (s := S2x256x256) ![1, 0, 0] S1x256x256.size inb_S2x256x256_S1x256x256_1_0_0) (fun _ => rfl)).squeeze S256x256 squeezes_S1x256x256_S256x256

/-- A chunk of a buffer of device `c`, held at a share. -/
abbrev cpt (M : Memref sig .tc .vmem S256x256 .bf16) (c : Dev nD) (q : PosShare TreeShare)
    (f : Buf (Elt F) (M.view.loc (c : Thread nD τ))) : sProp 𝕄 :=
  M.view.loc (c : Thread nD τ) ↦[M.view.set]{q} f

/-- What a chunk's copy credits. -/
abbrev N : ℕ := (ch0 kM).view.dmaCredit
theorem N_pos : 0 < N := View.dmaCredit_pos _ (by decide)

/-- Device 0's key and value blocks as the kernel's region finds them. -/
def KK : (cc0_scratch0 : Ref sig .tc).ty.Contents (Elt F) := V m (0 : Dev nD) main_v1
def VV : (cc0_scratch1 : Ref sig .tc).ty.Contents (Elt F) := V m (0 : Dev nD) main_v2

/-! ## The schedule -/

/-- A landing chunk at contents not chosen. -/
def free (M : Memref sig .tc .vmem S256x256 .bf16) (c : Dev nD) : sProp 𝕄 := iprop(∃ f, cpt M c fullShare f)

/-- What the signal of device `d` hands device `c`. -/
def barPay (c d : Dev nD) : sProp 𝕄 :=
  match c, d with
  | 0, 1 => iprop(free (ch0 kM) 1 ∗ free (ch1 kM) 1 ∗ free (ch0 vM) 1 ∗ free (ch1 vM) 1
      ∗ reached EX (xCell 1 8) 0 ∗ reached EX (xCell 1 9) 0 ∗ reached EX (xCell 1 10) 0 ∗ reached EX (xCell 1 11) 0)
  | 0, 3 => iprop(free (ch0 kM) 3 ∗ free (ch1 kM) 3 ∗ free (ch0 vM) 3 ∗ free (ch1 vM) 3
      ∗ reached EX (xCell 3 8) 0 ∗ reached EX (xCell 3 9) 0 ∗ reached EX (xCell 3 10) 0 ∗ reached EX (xCell 3 11) 0)
  | 1, 2 => iprop(free (ch0 kM) 2 ∗ free (ch1 kM) 2 ∗ reached EX (xCell 2 8) 0 ∗ reached EX (xCell 2 9) 0)
  | 3, 2 => iprop(free (ch0 vM) 2 ∗ free (ch1 vM) 2 ∗ reached EX (xCell 2 10) 0 ∗ reached EX (xCell 2 11) 0)
  | _, _ => iprop(emp)

/-- What a copy hands the owner `c` of semaphore `k`: a departure the share of the source it lent, an arrival the
    chunk at device 0's block. -/
def xPay (c : Dev nD) (k : Fin 12) : sProp 𝕄 :=
  match c, k with
  | 0, 0 => cpt (ch0 skM) 0 fullShare.left.left (KK m)
  | 0, 1 => cpt (ch1 skM) 0 fullShare.left.left (KK m)
  | 0, 2 => cpt (ch0 svM) 0 fullShare.left.left (VV m)
  | 0, 3 => cpt (ch1 svM) 0 fullShare.left.left (VV m)
  | 0, 4 => cpt (ch0 svM) 0 fullShare.left.right (VV m)
  | 0, 5 => cpt (ch1 svM) 0 fullShare.left.right (VV m)
  | 0, 6 => cpt (ch0 skM) 0 fullShare.left.right (KK m)
  | 0, 7 => cpt (ch1 skM) 0 fullShare.left.right (KK m)
  | 1, 0 => cpt (ch0 kM) 1 fullShare.left (KK m)
  | 1, 1 => cpt (ch1 kM) 1 fullShare.left (KK m)
  | 3, 0 => cpt (ch0 vM) 3 fullShare.left (VV m)
  | 3, 1 => cpt (ch1 vM) 3 fullShare.left (VV m)
  | c, 8 => cpt (ch0 kM) c fullShare (KK m)
  | c, 9 => cpt (ch1 kM) c fullShare (KK m)
  | c, 10 => cpt (ch0 vM) c fullShare (VV m)
  | c, 11 => cpt (ch1 vM) c fullShare (VV m)
  | _, _ => iprop(emp)

/-- Who credits semaphore `k` of device `c`. -/
def xDuties (c : Dev nD) (k : Fin 12) : Finset (Dev nD) :=
  match c, k with
  | 0, 8 => ∅
  | 0, 9 => ∅
  | 0, 10 => ∅
  | 0, 11 => ∅
  | 0, _ => {0}
  | 1, 0 => {1}
  | 1, 1 => {1}
  | 3, 0 => {3}
  | 3, 1 => {3}
  | 2, 8 => {1}
  | 2, 9 => {1}
  | 2, 10 => {3}
  | 2, 11 => {3}
  | 1, 8 => {0}
  | 1, 9 => {0}
  | 1, 10 => {0}
  | 1, 11 => {0}
  | 3, 8 => {0}
  | 3, 9 => {0}
  | 3, 10 => {0}
  | 3, 11 => {0}
  | _, _ => ∅

/-- The two neighbours of a device on the ring. -/
def nbrs (c : Dev nD) : Finset (Dev nD) :=
  match c with
  | 0 => {1, 3}
  | 1 => {0, 2}
  | 2 => {1, 3}
  | 3 => {0, 2}

/-- The exchange's number of a DMA semaphore. -/
def xIx (j : DmaSem sig) : Option (Fin 12) := if h : 6 ≤ j.val then some ⟨j.val - 6, by have : j.val < 18 := j.isLt; omega⟩ else none

theorem xIx_xS : ∀ k : Fin 12, xIx (xS k) = some k := by decide

def duties₀ (c : Dev nD) : SemLoc sig → Finset (Dev nD)
  | .reg _ => nbrs c
  | .dma j => match xIx j with | some k => xDuties c k | none => ∅
def payload₀ (c : Dev nD) (d : Dev nD) : SemLoc sig → sProp 𝕄
  | .reg _ => barPay c d
  | .dma j => match xIx j with | some k => xPay m c k | none => iprop(emp)
def amount₀ : SemLoc sig → ℕ
  | .reg _ => 1
  | .dma _ => N

/-- One round on every cell. -/
def sched : Rounds.Schedule (GSem nD τ sig) (Dev nD) 𝕄 where
  duties g r := if r = 0 ∧ g.1.2 = .tc then duties₀ g.1.1 g.2 else ∅
  unitless _ := False
  amount g _ _ := amount₀ g.2
  payload g _ d := payload₀ m g.1.1 d g.2
  amount_pos g _ _ _ := by
    rcases g with ⟨_, s⟩
    cases s with
    | reg _ => exact Nat.one_pos
    | dma _ => exact N_pos

instance free_storable (M : Memref sig .tc .vmem S256x256 .bf16) (c : Dev nD) :
    BI.Storable (upEmb : UEmb _ 𝕄) (free (F := F) M c) := by unfold free; infer_instance
instance reachedX_storable (c : Dev nD) (k : Fin 12) :
    BI.Storable (upEmb : UEmb _ 𝕄) (reached EX (xCell c k) 0 : sProp 𝕄) := inferInstance
set_option synthInstance.maxHeartbeats 400000 in
instance barPay_storable (c d : Dev nD) : BI.Storable (upEmb : UEmb _ 𝕄) (barPay (F := F) c d) := by
  unfold barPay; split <;> infer_instance
instance xPay_storable (c : Dev nD) (k : Fin 12) : BI.Storable (upEmb : UEmb _ 𝕄) (xPay m c k) := by
  unfold xPay; split <;> infer_instance

instance sched_storable (g : GSem nD τ sig) (r : ℕ) (d : Dev nD) :
    BI.Storable (upEmb : UEmb _ 𝕄) ((sched m).payload g r d) := by
  show BI.Storable upEmb (payload₀ m g.1.1 d g.2)
  unfold payload₀
  (repeat' split) <;> infer_instance

section Tables

variable (c d : Dev nD) (k : Fin 12)

theorem duties_zero (g : GSem nD τ sig) (h : g.1.2 = .tc) : (sched m).duties g 0 = duties₀ g.1.1 g.2 := if_pos ⟨rfl, h⟩
theorem duties_bar : (sched m).duties (barCell c) 0 = nbrs c := duties_zero m _ rfl
theorem duties_x : (sched m).duties (xCell c k) 0 = xDuties c k := by
  rw [duties_zero m _ rfl]; show (match xIx (xS k) with | some k => xDuties c k | none => ∅) = _; rw [xIx_xS]
theorem duties_later (g : GSem nD τ sig) : ∀ r, 1 ≤ r → (sched m).duties g r = ∅ :=
  fun r hr => if_neg fun h => by omega
theorem duties_none (h : xDuties c k = ∅) : ∀ r, 0 ≤ r → (sched m).duties (xCell c k) r = ∅ := fun r _ => by
  rcases Nat.eq_zero_or_pos r with rfl | hr
  · rw [duties_x, h]
  · exact duties_later m _ r hr

theorem amount_bar : (sched m).amount (barCell c) 0 d = 1 := rfl
theorem amount_x : (sched m).amount (xCell c k) 0 d = N := rfl

theorem payload_bar : (sched m).payload (barCell c) 0 d = barPay c d := rfl
theorem payload_x : (sched m).payload (xCell c k) 0 d = xPay m c k := by
  show (match xIx (xS k) with | some k => xPay m c k | none => iprop(emp)) = _; rw [xIx_xS]

theorem expect_bar : (sched m).expect (barCell c) 0 = 2 := by
  unfold Schedule.expect Schedule.amountOf
  rw [duties_bar, Finset.sum_congr rfl fun d _ => amount_bar m c d]
  revert c; decide
theorem expect_x (h : (xDuties c k).card = 1) : (sched m).expect (xCell c k) 0 = N := by
  unfold Schedule.expect Schedule.amountOf
  rw [duties_x, Finset.sum_congr rfl fun d _ => amount_x m c d k, Finset.sum_const, h, one_smul]

/-- What the barrier wait hands over. -/
theorem rest_bar : bigSep ((sched m).duties (barCell c) 0 \ ∅) (fun d => (sched m).payload (barCell c) 0 d)
    = bigSep (nbrs c) (barPay c) := by
  rw [Finset.sdiff_empty, duties_bar]; rfl
theorem rest_x (h : xDuties c k = {d}) : bigSep ((sched m).duties (xCell c k) 0 \ ∅) (fun d => (sched m).payload (xCell c k) 0 d)
    = xPay m c k := by
  rw [Finset.sdiff_empty, duties_x, h, bigSep_singleton, payload_x]

end Tables

/-! ## What each device owes at launch; levels -/

/-- The credit of one chunk on semaphore `k` of device `c`. -/
abbrev owe (c : Dev nD) (k : Fin 12) : CellTallies nD τ sig Unit := tallyAt (xCell c k) () N
abbrev oweB (c : Dev nD) : CellTallies nD τ sig Unit := tallyAt (barCell c) () 1

/-- What a device owes once its two signals are sent, last debt paid first. -/
def O₁ (c : Dev nD) : CellTallies nD τ sig Unit :=
  match c with
  | 0 => 0 + owe 3 9 + owe 3 8 + owe 1 11 + owe 1 10 + owe 3 11 + owe 3 10 + owe 1 9 + owe 1 8
  | 1 => 0 + owe 2 9 + owe 2 8
  | 2 => 0
  | 3 => 0 + owe 2 11 + owe 2 10
/-- The two neighbours in the order they are signalled. -/
def lft (c : Dev nD) : Dev nD := match c with | 0 => 3 | 1 => 0 | 2 => 1 | 3 => 2
def rgt (c : Dev nD) : Dev nD := match c with | 0 => 1 | 1 => 2 | 2 => 3 | 3 => 0
def O₀ (c : Dev nD) : CellTallies nD τ sig Unit := O₁ c + oweB (rgt c) + oweB (lft c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers at 1, arrivals at devices 1 and 3 at 2, arrivals at device 2 at 3, everything else at 0. -/
def lv₀ (c : Dev nD) : SemLoc sig → ℕ
  | .reg _ => 1
  | .dma j => if 14 ≤ j.val then (if c = 2 then 3 else 2) else 0
def lv (g : GSem nD τ sig) (_ : Unit) : ℕ := lv₀ g.1.1 g.2

/-- Everything owed lies above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {A B : CellTallies nD τ sig Unit} (hA : Above n A) (hB : Above n B) : Above n (A + B) := fun g u h => by
  rw [Pi.add_apply, Finsupp.add_apply] at h
  rcases Nat.add_pos_iff_pos_or_pos.mp h with h | h
  · exact hA g u h
  · exact hB g u h
theorem above_tally {n k : ℕ} (c : Dev nD) (s : SemLoc sig) (h : n < lv₀ c s) : Above n (tallyAt ((c : Thread nD τ), s) () k) := fun g u hg => by
  rw [tallyAt_apply] at hg
  by_cases he : g = ((c : Thread nD τ), s) ∧ u = ()
  · rw [he.1]; exact ⟨by rw [L_tc]; exact Finset.mem_singleton_self _, h⟩
  · rw [if_neg he] at hg; exact absurd hg (Nat.lt_irrefl 0)

/-- A device may wait on its semaphore when everything it owes lies above. -/
theorem mayWait_above (c : Dev nD) (s : SemLoc sig) (O : CellTallies nD τ sig Unit) (h : Above (lv₀ c s) O) :
    (levAts L lv : sProp 𝕄) ⊢ MayWait (c : Thread nD τ) s () O :=
  MayOwe.of_cut (L := L) (lev := lv) (lv₀ c s) (fun p hp => by rw [Finset.mem_singleton.mp hp, L_tc]; exact Finset.mem_singleton_self _)
    (fun g u hg => (h g u hg).1)
    (fun p hp => by rw [Finset.mem_singleton.mp hp]; exact le_rfl)
    (fun g u hg => (h g u hg).2)

theorem above_O₁ (c : Dev nD) : Above 1 (O₁ c) := by
  fin_cases c <;> unfold O₁ <;>
    (repeat' first
      | exact above_zero _
      | exact above_tally _ _ (by decide)
      | apply above_add)
theorem above_O₀ (c : Dev nD) : Above 0 (O₀ c) := by
  unfold O₀
  refine above_add (above_add (fun g u h => ⟨(above_O₁ c g u h).1, Nat.lt_of_succ_lt (above_O₁ c g u h).2⟩) ?_) ?_ <;>
    exact above_tally _ _ Nat.one_pos

/-! ## Landing -/

/-! A chunk written with the same chunk of another block of its shape holds that block there. -/

section Landed

variable (c c' : Dev nD)

theorem landed_sk0 (fd : Buf (Elt F) ((ch0 kM).view.loc (c' : Thread nD τ))) (fs : Buf (Elt F) ((ch0 skM).view.loc (c : Thread nD τ))) :
    cpt (ch0 kM) c' fullShare ((ch0 kM).view.write (Elt F) fd ((ch0 skM).view.read (Elt F) fs) Finset.univ) ⊢ cpt (ch0 kM) c' fullShare fs :=
  (pointsTo_congr fun i hi => by
    obtain ⟨x, -, rfl⟩ := Finset.mem_map.mp hi
    exact (View.write_emb_of_mem _ _ (Finset.mem_univ x)).trans rfl).le
theorem landed_sk1 (fd : Buf (Elt F) ((ch1 kM).view.loc (c' : Thread nD τ))) (fs : Buf (Elt F) ((ch1 skM).view.loc (c : Thread nD τ))) :
    cpt (ch1 kM) c' fullShare ((ch1 kM).view.write (Elt F) fd ((ch1 skM).view.read (Elt F) fs) Finset.univ) ⊢ cpt (ch1 kM) c' fullShare fs :=
  (pointsTo_congr fun i hi => by
    obtain ⟨x, -, rfl⟩ := Finset.mem_map.mp hi
    exact (View.write_emb_of_mem _ _ (Finset.mem_univ x)).trans rfl).le
theorem landed_k0 (fd : Buf (Elt F) ((ch0 kM).view.loc (c' : Thread nD τ))) (fs : Buf (Elt F) ((ch0 kM).view.loc (c : Thread nD τ))) :
    cpt (ch0 kM) c' fullShare ((ch0 kM).view.write (Elt F) fd ((ch0 kM).view.read (Elt F) fs) Finset.univ) ⊢ cpt (ch0 kM) c' fullShare fs :=
  (pointsTo_congr fun i hi => by
    obtain ⟨x, -, rfl⟩ := Finset.mem_map.mp hi
    exact (View.write_emb_of_mem _ _ (Finset.mem_univ x)).trans rfl).le
theorem landed_k1 (fd : Buf (Elt F) ((ch1 kM).view.loc (c' : Thread nD τ))) (fs : Buf (Elt F) ((ch1 kM).view.loc (c : Thread nD τ))) :
    cpt (ch1 kM) c' fullShare ((ch1 kM).view.write (Elt F) fd ((ch1 kM).view.read (Elt F) fs) Finset.univ) ⊢ cpt (ch1 kM) c' fullShare fs :=
  (pointsTo_congr fun i hi => by
    obtain ⟨x, -, rfl⟩ := Finset.mem_map.mp hi
    exact (View.write_emb_of_mem _ _ (Finset.mem_univ x)).trans rfl).le
theorem landed_sv0 (fd : Buf (Elt F) ((ch0 vM).view.loc (c' : Thread nD τ))) (fs : Buf (Elt F) ((ch0 svM).view.loc (c : Thread nD τ))) :
    cpt (ch0 vM) c' fullShare ((ch0 vM).view.write (Elt F) fd ((ch0 svM).view.read (Elt F) fs) Finset.univ) ⊢ cpt (ch0 vM) c' fullShare fs :=
  (pointsTo_congr fun i hi => by
    obtain ⟨x, -, rfl⟩ := Finset.mem_map.mp hi
    exact (View.write_emb_of_mem _ _ (Finset.mem_univ x)).trans rfl).le
theorem landed_sv1 (fd : Buf (Elt F) ((ch1 vM).view.loc (c' : Thread nD τ))) (fs : Buf (Elt F) ((ch1 svM).view.loc (c : Thread nD τ))) :
    cpt (ch1 vM) c' fullShare ((ch1 vM).view.write (Elt F) fd ((ch1 svM).view.read (Elt F) fs) Finset.univ) ⊢ cpt (ch1 vM) c' fullShare fs :=
  (pointsTo_congr fun i hi => by
    obtain ⟨x, -, rfl⟩ := Finset.mem_map.mp hi
    exact (View.write_emb_of_mem _ _ (Finset.mem_univ x)).trans rfl).le
theorem landed_v0 (fd : Buf (Elt F) ((ch0 vM).view.loc (c' : Thread nD τ))) (fs : Buf (Elt F) ((ch0 vM).view.loc (c : Thread nD τ))) :
    cpt (ch0 vM) c' fullShare ((ch0 vM).view.write (Elt F) fd ((ch0 vM).view.read (Elt F) fs) Finset.univ) ⊢ cpt (ch0 vM) c' fullShare fs :=
  (pointsTo_congr fun i hi => by
    obtain ⟨x, -, rfl⟩ := Finset.mem_map.mp hi
    exact (View.write_emb_of_mem _ _ (Finset.mem_univ x)).trans rfl).le
theorem landed_v1 (fd : Buf (Elt F) ((ch1 vM).view.loc (c' : Thread nD τ))) (fs : Buf (Elt F) ((ch1 vM).view.loc (c : Thread nD τ))) :
    cpt (ch1 vM) c' fullShare ((ch1 vM).view.write (Elt F) fd ((ch1 vM).view.read (Elt F) fs) Finset.univ) ⊢ cpt (ch1 vM) c' fullShare fs :=
  (pointsTo_congr fun i hi => by
    obtain ⟨x, -, rfl⟩ := Finset.mem_map.mp hi
    exact (View.write_emb_of_mem _ _ (Finset.mem_univ x)).trans rfl).le

end Landed

end Cert.Proof

end
-- ==== Proof.Steps.lean ====
/-
  One rule per kind of statement the kernel's body talks with: a signal to a neighbour, the wait for the neighbours, a
  copy to another device, a wait for a copy; and how a buffer of two chunks is taken apart and put together.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

abbrev 𝒱₀ : Variants := Variants.none

/-- One of a family held. -/
theorem bigSep_one {I : Type} [DecidableEq I] {s : Finset I} {i : I} (h : i ∈ s) {Φ : I → sProp 𝕄} :
    (bigSep s Φ : sProp 𝕄) ⊢ Φ i := bigSep_elim h

/-! ## The cells in one family -/

/-- A cell of the exchange: a device and its barrier (`none`) or one of its twelve DMA semaphores. -/
abbrev CIx : Type := Dev nD × Option (Fin 12)
def cellAt : CIx → GSem nD τ sig
  | (c, none) => barCell c
  | (c, some k) => xCell c k

/-- Every cell's invariant, and that round 0 of every barrier cell is reached. -/
def recs : sProp 𝕄 :=
  iprop(bigSep Finset.univ (fun p : CIx => cellInv EX (sched m) (K (cellAt p)) (cellAt p))
    ∗ bigSep Finset.univ (fun c : Dev nD => reached EX (barCell c) 0))

instance recs_persistent : BI.Persistent (recs (F := F) m K) := by unfold recs; infer_instance

theorem recs_bar (c : Dev nD) : (recs m K : sProp 𝕄) ⊢ cellInv EX (sched m) (K (barCell c)) (barCell c) := by
  unfold recs; iintro ⟨H, -⟩
  iapply (bigSep_one (Finset.mem_univ ((c, none) : CIx)) (Φ := fun p : CIx => cellInv EX (sched m) (K (cellAt p)) (cellAt p))); iexact H
theorem recs_x (c : Dev nD) (k : Fin 12) : (recs m K : sProp 𝕄) ⊢ cellInv EX (sched m) (K (xCell c k)) (xCell c k) := by
  unfold recs; iintro ⟨H, -⟩
  iapply (bigSep_one (Finset.mem_univ ((c, some k) : CIx)) (Φ := fun p : CIx => cellInv EX (sched m) (K (cellAt p)) (cellAt p))); iexact H
theorem recs_reached (c : Dev nD) : (recs m K : sProp 𝕄) ⊢ reached EX (barCell c) 0 := by
  unfold recs; iintro ⟨-, H⟩
  iapply (bigSep_one (Finset.mem_univ c) (Φ := fun c : Dev nD => reached EX (barCell c) 0)); iexact H

/-- A device's debts, whatever it has waited on. -/
def ow (c : Dev nD) (O : CellTallies nD τ sig Unit) : sProp 𝕄 := iprop(∃ W, owes (c : Thread nD τ) O W)

/-- The right to pay semaphore `k` of device `c'` (or its barrier), held by device `c`. -/
abbrev tokX (c c' : Dev nD) (k : Fin 12) : sProp 𝕄 := dutyTok EX (xCell c' k) 0 c
abbrev tokB (c c' : Dev nD) : sProp 𝕄 := dutyTok EX (barCell c') 0 c
/-- Device `c`'s place on its semaphore `k`, before and after its round. -/
abbrev pos (c : Dev nD) (k : Fin 12) (r : ℕ) : sProp 𝕄 := atPos EX (xCell c k) r ∅ 0
abbrev posB (c : Dev nD) (r : ℕ) : sProp 𝕄 := atPos EX (barCell c) r ∅ 0
/-- The credit a wait for one chunk, or for the two signals, spends. -/
abbrev crX (c : Dev nD) (k : Fin 12) : sProp 𝕄 := cred (tallyAt (xCell c k) () N)
abbrev crB (c : Dev nD) : sProp 𝕄 := cred (tallyAt (barCell c) () 2)
abbrev rch (c : Dev nD) (k : Fin 12) : sProp 𝕄 := reached EX (xCell c k) 0

/-! ## Statements -/

section Run

variable (Kt : PUnit → sProp 𝕄)

abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem step_signal {α : Type} {Q : α → sProp 𝕄} (c d : Dev nD) {dv : Dev nD} (hdv : dv = d) (hd : c ∈ nbrs d) (O : CellTallies nD τ sig Unit) {n : ℕ} (hn : n = 1)
    {k : PUnit → Prog (TpuEff nD τ sig (Elt F) Λ₀ .tc) α} :
    iprop(recs m K ∗ ow c (O + oweB d) ∗ tokB c d ∗ barPay d c)
      ⊢ iprop((ow c O -∗ Wp c (k ⟨⟩) Q) -∗ Wp c (.op (.semSignal (dv : Thread nD τ) barS n) k) Q) := by
  subst hdv hn
  unfold ow
  iintro ⟨#Hr, ⟨%W, HO⟩, Ht, Hp⟩ Hk
  iapply (Rounds.wp_signal 𝒱₀ EX (sched m) (c : Thread nD τ) none (dst := (dv : Thread nD τ)) (sem := barS) (r := 0) (d := c) (κ := K (barCell dv))
      (by rw [duties_bar]; exact hd) (amount_bar m dv c) () O rfl) $$ [HO Ht Hp]
  · isplitr; · iapply (recs_bar m K dv); iexact Hr
    isplitl [HO]; · iexact HO
    isplitl [Ht]; · iexact Ht
    isplitl [Hp]; · rw [payload_bar]; iexact Hp
    iapply (recs_reached m K dv); iexact Hr
  iintro HO
  iapply Hk; iexists W; iexact HO

theorem step_barrier {α : Type} {Q : α → sProp 𝕄} (c : Dev nD) (O : CellTallies nD τ sig Unit) (hO : Above 1 O) {n : ℕ} (hn : n = 2)
    {k : PUnit → Prog (TpuEff nD τ sig (Elt F) Λ₀ .tc) α} :
    iprop(recs m K ∗ levAts L lv ∗ crB c ∗ ow c O ∗ posB c 0)
      ⊢ iprop(((ow c O ∗ posB c 1 ∗ bigSep (nbrs c) (barPay c)) -∗ Wp c (k ⟨⟩) Q) -∗ Wp c (.op (.semWait barS n) k) Q) := by
  subst hn
  unfold ow
  iintro ⟨#Hr, #Hlev, Hc, ⟨%W, HO⟩, Hat⟩ Hk
  iapply (Rounds.wp_wait_rest_token 𝒱₀ EX (sched m) (c : Thread nD τ) none (κ := K (barCell c))
      (wpE_semWait_eq 𝒱₀ (c : Thread nD τ) none Set.univ) (Set.mem_univ _) () (O := O) (W := W) (R := 0) (m := 0) (T := ∅)
      ((Nat.zero_add 2).trans (expect_bar m c).symm)) $$ [Hc HO Hat]
  · isplitr; · iapply (recs_bar m K c); iexact Hr
    isplitl [Hc]; · iexact Hc
    isplitl [HO]; · iexact HO
    isplitr; · iapply (mayWait_above c (.reg barS) O hO); iexact Hlev
    iexact Hat
  iintro ⟨HO, Hat, -, Hp⟩
  iapply Hk
  isplitl [HO]; · iexists _; iexact HO
  isplitl [Hat]; · iexact Hat
  rw [← rest_bar m c]; iexact Hp

theorem step_wait {α : Type} {Q : α → sProp 𝕄} (c d : Dev nD) (j : Fin 12) (O : CellTallies nD τ sig Unit) (hO : Above (lv₀ c (osem j)) O)
    (hd : xDuties c j = {d}) {sS : DmaSem sig} (hs : sS = xS j) {src dst : Memref sig .tc .vmem S256x256 .bf16} (hN : dst.view.dmaCredit = N)
    {h₁ : src.view.WordExact} {h₂ : dst.view.WordExact}
    {k : PUnit → Prog (TpuEff nD τ sig (Elt F) Λ₀ .tc) α} :
    iprop(recs m K ∗ levAts L lv ∗ crX c j ∗ ow c O ∗ pos c j 0)
      ⊢ iprop(((ow c O ∗ pos c j 1 ∗ xPay m c j) -∗ Wp c (k ⟨⟩) Q) -∗ Wp c (.op (.waitDma2 sS src dst h₁ h₂) k) Q) := by
  subst hs
  unfold ow
  iintro ⟨#Hr, #Hlev, Hc, ⟨%W, HO⟩, Hat⟩ Hk
  iapply (Rounds.wp_wait_rest_token (k' := dst.view.dmaCredit) 𝒱₀ EX (sched m) (c : Thread nD τ) none (κ := K (xCell c j))
      (wpE_waitDma2_eq (src := src) (dst := dst) 𝒱₀ (c : Thread nD τ) none Set.univ) (Set.mem_univ _) () (O := O) (W := W) (R := 0) (m := 0) (T := ∅)
      ((Nat.zero_add _).trans (hN.trans (expect_x m c j (by rw [hd]; rfl)).symm))) $$ [Hc HO Hat]
  · isplitr; · iapply (recs_x m K c j); iexact Hr
    isplitl [Hc]; · rw [hN]; iexact Hc
    isplitl [HO]; · iexact HO
    isplitr; · iapply (mayWait_above c (osem j) O hO); iexact Hlev
    iexact Hat
  iintro ⟨HO, Hat, -, Hp⟩
  iapply Hk
  isplitl [HO]; · iexists _; iexact HO
  isplitl [Hat]; · iexact Hat
  rw [← rest_x m c d j hd]; iexact Hp

theorem step_send {α : Type} {Q : α → sProp 𝕄} (c c' : Dev nD) (ks kr : Fin 12) (O : CellTallies nD τ sig Unit) {q : PosShare TreeShare}
    {src dst : Memref sig .tc .vmem S256x256 .bf16} {fs : Buf (Elt F) (src.view.loc (c : Thread nD τ))}
    (h₁ : cpt src c q fs ⊢ xPay m c ks)
    (h₂ : ∀ fd, cpt dst c' fullShare (dst.view.write (Elt F) fd (src.view.read (Elt F) fs) Finset.univ) ⊢ xPay m c' kr)
    (hd₁ : xDuties c ks = {c}) (hd₂ : xDuties c' kr = {c})
    {dv : Dev nD} (hdv : dv = c') {sS sD : DmaSem sig} (hs : sS = xS ks) (hd : sD = xS kr) (hN : dst.view.dmaCredit = N)
    {hsc : dst.view.ref.isScScratch = false} {hsrc : src.view.WordExact} {hdst : dst.view.WordExact}
    {hsem : DmaTarget.Typed .vmem (.dma sD) (.remote (Dev.tc dv) dst (.dma sS) hsc)}
    {k : PUnit → Prog (TpuEff nD τ sig (Elt F) Λ₀ .tc) α} :
    iprop(recs m K ∗ cpt src c q fs ∗ free dst c' ∗ ow c (O + owe c' kr) ∗ tokX c c ks ∗ rch c ks ∗ tokX c c' kr ∗ rch c' kr)
      ⊢ iprop(((crX c ks ∗ ow c O) -∗ Wp c (k ⟨⟩) Q)
          -∗ Wp c (.op (.enqueueDma src (.remote (Dev.tc dv) dst (.dma sS) hsc) (.dma sD) hsrc hdst hsem) k) Q) := by
  subst hs hd hdv
  unfold ow free
  iintro ⟨#Hr, Hsrc, ⟨%fd, Hdst⟩, ⟨%W, HO⟩, Ht1, Hr1, Ht2, Hr2⟩ Hk
  iapply (Rounds.wp_send_pointsTo 𝒱₀ EX (sched m) (c : Thread nD τ) none (c' := (dv : Thread nD τ)) (src := src) (dst := dst)
      (sS := osem ks) (sem := osem kr) (q := q) (fs := fs) (κ₁ := K (xCell c ks)) (κ₂ := K (xCell dv kr))
      (r₁ := 0) (r₂ := 0) (d₁ := c) (d₂ := c) (fd := fd)
      (by rw [duties_x, hd₁]; exact Finset.mem_singleton_self _) (by rw [duties_x, hd₂]; exact Finset.mem_singleton_self _)
      () () N hN (amount_x m c c ks) (amount_x m dv c kr) O rfl (W := W)
      (by rw [payload_x]; exact h₁) (by rw [payload_x]; exact h₂ fd)) $$ [Hsrc Hdst HO Ht1 Ht2 Hr1 Hr2]
  · isplitr; · iapply (recs_x m K c ks); iexact Hr
    isplitr; · iapply (recs_x m K dv kr); iexact Hr
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Run

/-! ## A buffer of two chunks -/

abbrev rc0 : Rect S2x256x256 := Rect.unit (s := S2x256x256) ![0, 0, 0] S1x256x256.size inb_S2x256x256_S1x256x256_0_0_0
abbrev rc1 : Rect S2x256x256 := Rect.unit (s := S2x256x256) ![1, 0, 0] S1x256x256.size inb_S2x256x256_S1x256x256_1_0_0

theorem rc_disjoint : Disjoint rc0.set rc1.set := by
  rw [Finset.disjoint_left]
  intro i h0 h1
  rw [Rect.mem_set_unit] at h0 h1
  have := (h0 0).2; have := (h1 0).1
  simp at *; omega

theorem rc_union : rc0.set ∪ rc1.set = Finset.univ := by
  ext i
  simp only [Finset.mem_union, Finset.mem_univ, iff_true]
  rw [Rect.mem_set_unit, Rect.mem_set_unit]
  have h0 : (i 0).val < 2 := (i 0).isLt
  have h1 : (i 1).val < 256 := (i 1).isLt
  have h2 : (i 2).val < 256 := (i 2).isLt
  rcases Nat.lt_or_ge (i 0).val 1 with h | h
  · left; intro a; fin_cases a <;> simp <;> omega
  · right; intro a; fin_cases a <;> simp <;> omega

theorem set_k0 : (ch0 kM).view.set = rc0.set := (View.set_reshape _ _).trans (View.set_slice_whole _ _)
theorem set_k1 : (ch1 kM).view.set = rc1.set := (View.set_reshape _ _).trans (View.set_slice_whole _ _)
theorem set_v0 : (ch0 vM).view.set = rc0.set := (View.set_reshape _ _).trans (View.set_slice_whole _ _)
theorem set_v1 : (ch1 vM).view.set = rc1.set := (View.set_reshape _ _).trans (View.set_slice_whole _ _)
theorem set_sk0 : (ch0 skM).view.set = rc0.set := (View.set_reshape _ _).trans (View.set_slice_whole _ _)
theorem set_sk1 : (ch1 skM).view.set = rc1.set := (View.set_reshape _ _).trans (View.set_slice_whole _ _)
theorem set_sv0 : (ch0 svM).view.set = rc0.set := (View.set_reshape _ _).trans (View.set_slice_whole _ _)
theorem set_sv1 : (ch1 svM).view.set = rc1.set := (View.set_reshape _ _).trans (View.set_slice_whole _ _)

section Two

variable (c : Dev nD) (q : PosShare TreeShare)

theorem two_k (f : Buf (Elt F) (kM.view.loc (c : Thread nD τ))) :
    (kM.view.loc (c : Thread nD τ) ↦{q} f : sProp 𝕄) ⊣⊢ iprop(cpt (ch0 kM) c q f ∗ cpt (ch1 kM) c q f) := by
  unfold cpt; rw [set_k0, set_k1, ← rc_union]; exact pointsTo_union rc_disjoint
theorem two_v (f : Buf (Elt F) (vM.view.loc (c : Thread nD τ))) :
    (vM.view.loc (c : Thread nD τ) ↦{q} f : sProp 𝕄) ⊣⊢ iprop(cpt (ch0 vM) c q f ∗ cpt (ch1 vM) c q f) := by
  unfold cpt; rw [set_v0, set_v1, ← rc_union]; exact pointsTo_union rc_disjoint
theorem two_sk (f : Buf (Elt F) (skM.view.loc (c : Thread nD τ))) :
    (skM.view.loc (c : Thread nD τ) ↦{q} f : sProp 𝕄) ⊣⊢ iprop(cpt (ch0 skM) c q f ∗ cpt (ch1 skM) c q f) := by
  unfold cpt; rw [set_sk0, set_sk1, ← rc_union]; exact pointsTo_union rc_disjoint
theorem two_sv (f : Buf (Elt F) (svM.view.loc (c : Thread nD τ))) :
    (svM.view.loc (c : Thread nD τ) ↦{q} f : sProp 𝕄) ⊣⊢ iprop(cpt (ch0 svM) c q f ∗ cpt (ch1 svM) c q f) := by
  unfold cpt; rw [set_sv0, set_sv1, ← rc_union]; exact pointsTo_union rc_disjoint

end Two

end Cert.Proof

end
-- ==== Proof.Value.lean ====
/-
  What the kernel's body stores, as a function of the blocks it reads, and the arithmetic of its device numbers.
-/
module

public import proofs.«01_k».proof.Proof.Steps
public import Idealize.ShloMosaic.Lib.Pipeline.Value

@[expose] public section

noncomputable section

namespace Cert.Proof

open Cert.KernelIdeal Cert.KernelIdeal.Gen
open Idealize.ShloMosaic Idealize.ShloMosaic.TcCoe

variable {F : FTy → Type} [FloatOps F]

/-! ## Contents of the buffers the body uses -/

abbrev CX (F : FTy → Type) : Type := (cc0_stg0_0 : Ref sig .tc).ty.Contents (Elt F)
abbrev CWq (F : FTy → Type) : Type := (cc0_stg1_0 : Ref sig .tc).ty.Contents (Elt F)
abbrev CK (F : FTy → Type) : Type := (cc0_scratch0 : Ref sig .tc).ty.Contents (Elt F)
abbrev CV (F : FTy → Type) : Type := (cc0_scratch1 : Ref sig .tc).ty.Contents (Elt F)
abbrev CWo (F : FTy → Type) : Type := (cc0_stg4_0 : Ref sig .tc).ty.Contents (Elt F)
abbrev CO (F : FTy → Type) : Type := (cc0_stg5_0 : Ref sig .tc).ty.Contents (Elt F)

abbrev xM : Memref sig .tc .vmem S2x256x512 .bf16 := Memref.whole cc0_stg0_0
abbrev wqM : Memref sig .tc .vmem S512x256 .bf16 := Memref.whole cc0_stg1_0
abbrev woM : Memref sig .tc .vmem S256x512 .bf16 := Memref.whole cc0_stg4_0
abbrev oM : Memref sig .tc .vmem S2x256x512 .f32 := Memref.whole cc0_stg5_0

abbrev rx0 : Rect S2x256x512 := Rect.unit (s := S2x256x512) ![0, 0, 0] S1x256x512.size inb_S2x256x512_S1x256x512_0_0_0
abbrev rx1 : Rect S2x256x512 := Rect.unit (s := S2x256x512) ![1, 0, 0] S1x256x512.size inb_S2x256x512_S1x256x512_1_0_0

abbrev rwq : Rect S512x256 := Rect.unit (s := S512x256) ![0, 0] S512x256.size inb_S512x256_S512x256_0_0
abbrev rwo : Rect S256x512 := Rect.unit (s := S256x512) ![0, 0] S256x512.size inb_S256x512_S256x512_0_0
abbrev rkw : Rect S2x256x256 := Rect.unit (s := S2x256x256) ![0, 0, 0] S2x256x256.size inb_S2x256x256_S2x256x256_0_0_0

/-! ## The stored chunks -/

/-- The block mask as the kernel builds it. -/
def kmask : IVec S256x256 1 :=
  k0_pay6 k0_pay3 (iota .tc S256x256 32 [1] iota_S256x256_d1_w32) 64#32 k0_pay4 k0_pay5

variable (fx : CX F) (fq : CWq F) (fk : CK F) (fv : CV F) (fo : CWo F)

def q0 : FVec F S256x256 .f32 := k0_pay7 ((xM.access rx0).read (Elt F) fx) ((wqM.access rwq).read (Elt F) fq)
def q1 : FVec F S256x256 .f32 := k0_pay8 ((xM.access rx1).read (Elt F) fx) ((wqM.access rwq).read (Elt F) fq)
def kc0 : Vec F S1x256x256 .bf16 := (kM.access rc0).read (Elt F) fk
def kc1 : Vec F S1x256x256 .bf16 := (kM.access rc1).read (Elt F) fk
def vc0 : Vec F S1x256x256 .bf16 := (vM.access rc0).read (Elt F) fv
def vc1 : Vec F S1x256x256 .bf16 := (vM.access rc1).read (Elt F) fv

/-- The first batch entry's chunk of the result. -/
def outc0 : FVec F S1x256x512 .f32 :=
  k0_pay23 (k0_pay22 (k0_pay10 kmask (q0 fx fq) (kc0 fk)) (k0_pay11 kmask (q0 fx fq) (kc0 fk)) (k0_pay12 kmask (q0 fx fq) (kc0 fk))
    (k0_pay15 (k0_pay13 kmask (q0 fx fq) (kc0 fk)) (k0_pay14 kmask (q0 fx fq) (kc0 fk))) (vc0 fv) ((woM.access rwo).read (Elt F) fo))
/-- The second batch entry's chunk of the result. -/
def outc1 : FVec F S1x256x512 .f32 :=
  k0_pay24 (k0_pay17 kmask (q1 fx fq) (kc1 fk)) (k0_pay18 kmask (q1 fx fq) (kc1 fk)) (k0_pay20 kmask (k0_pay19 (q1 fx fq) (kc1 fk)))
    (k0_pay21 kmask (q1 fx fq) (k0_pay16 (kc1 fk))) (vc1 fv) ((woM.access rwo).read (Elt F) fo)

/-- The result buffer after both stores, from its contents before. -/
def outF (g : CO F) : CO F :=
  (oM.access rx1).write (Elt F) ((oM.access rx0).write (Elt F) g (outc0 fx fq fk fv fo) Finset.univ) (outc1 fx fq fk fv fo) Finset.univ

/-! ## Device numbers -/

theorem dev1_0 : (⟨k0_dev1 0, k0_dev1_lt 0⟩ : Dev nD) = 3 := Fin.ext (by decide)
theorem dev1_1 : (⟨k0_dev1 1, k0_dev1_lt 1⟩ : Dev nD) = 0 := Fin.ext (by decide)
theorem dev1_2 : (⟨k0_dev1 2, k0_dev1_lt 2⟩ : Dev nD) = 1 := Fin.ext (by decide)
theorem dev1_3 : (⟨k0_dev1 3, k0_dev1_lt 3⟩ : Dev nD) = 2 := Fin.ext (by decide)
theorem dev2_0 : (⟨k0_dev2 0, k0_dev2_lt 0⟩ : Dev nD) = 1 := Fin.ext (by decide)
theorem dev2_1 : (⟨k0_dev2 1, k0_dev2_lt 1⟩ : Dev nD) = 2 := Fin.ext (by decide)
theorem dev2_2 : (⟨k0_dev2 2, k0_dev2_lt 2⟩ : Dev nD) = 3 := Fin.ext (by decide)
theorem dev2_3 : (⟨k0_dev2 3, k0_dev2_lt 3⟩ : Dev nD) = 0 := Fin.ext (by decide)
theorem dev3 (c : Dev nD) (h : k0_cond1 c = 1#1) : (⟨k0_dev3, k0_dev3_lt c h⟩ : Dev nD) = 1 := Fin.ext (show k0_dev3 = 1 by decide)
theorem dev4 (c : Dev nD) (h : k0_cond1 c = 1#1) : (⟨k0_dev4, k0_dev4_lt c h⟩ : Dev nD) = 1 := Fin.ext (show k0_dev4 = 1 by decide)
theorem dev5 (c : Dev nD) (h : k0_cond1 c = 1#1) : (⟨k0_dev5, k0_dev5_lt c h⟩ : Dev nD) = 3 := Fin.ext (show k0_dev5 = 3 by decide)
theorem dev6 (c : Dev nD) (h : k0_cond1 c = 1#1) : (⟨k0_dev6, k0_dev6_lt c h⟩ : Dev nD) = 3 := Fin.ext (show k0_dev6 = 3 by decide)
theorem dev7 (c : Dev nD) (h : k0_cond1 c = 1#1) : (⟨k0_dev7, k0_dev7_lt c h⟩ : Dev nD) = 1 := Fin.ext (show k0_dev7 = 1 by decide)
theorem dev8 (c : Dev nD) (h : k0_cond1 c = 1#1) : (⟨k0_dev8, k0_dev8_lt c h⟩ : Dev nD) = 1 := Fin.ext (show k0_dev8 = 1 by decide)
theorem dev9 (c : Dev nD) (h : k0_cond1 c = 1#1) : (⟨k0_dev9, k0_dev9_lt c h⟩ : Dev nD) = 3 := Fin.ext (show k0_dev9 = 3 by decide)
theorem dev10 (c : Dev nD) (h : k0_cond1 c = 1#1) : (⟨k0_dev10, k0_dev10_lt c h⟩ : Dev nD) = 3 := Fin.ext (show k0_dev10 = 3 by decide)
theorem dev11 (c : Dev nD) (h : k0_cond2 c = 1#1) : (⟨k0_dev11, k0_dev11_lt c h⟩ : Dev nD) = 2 := Fin.ext (show k0_dev11 = 2 by decide)
theorem dev12 (c : Dev nD) (h : k0_cond3 c = 1#1) : (⟨k0_dev12, k0_dev12_lt c h⟩ : Dev nD) = 2 := Fin.ext (show k0_dev12 = 2 by decide)
theorem dev13 (c : Dev nD) (h : k0_cond5 c = 1#1) : (⟨k0_dev13, k0_dev13_lt c h⟩ : Dev nD) = 2 := Fin.ext (show k0_dev13 = 2 by decide)
theorem dev14 (c : Dev nD) (h : k0_cond6 c = 1#1) : (⟨k0_dev14, k0_dev14_lt c h⟩ : Dev nD) = 2 := Fin.ext (show k0_dev14 = 2 by decide)
theorem cond1_0 : k0_cond1 0 = 1#1 := by decide
theorem cond1_1 : ¬ k0_cond1 1 = 1#1 := by decide
theorem cond1_2 : ¬ k0_cond1 2 = 1#1 := by decide
theorem cond1_3 : ¬ k0_cond1 3 = 1#1 := by decide
theorem cond2_0 : ¬ k0_cond2 0 = 1#1 := by decide
theorem cond2_1 : k0_cond2 1 = 1#1 := by decide
theorem cond2_2 : ¬ k0_cond2 2 = 1#1 := by decide
theorem cond2_3 : ¬ k0_cond2 3 = 1#1 := by decide
theorem cond3_0 : ¬ k0_cond3 0 = 1#1 := by decide
theorem cond3_1 : ¬ k0_cond3 1 = 1#1 := by decide
theorem cond3_2 : ¬ k0_cond3 2 = 1#1 := by decide
theorem cond3_3 : k0_cond3 3 = 1#1 := by decide
theorem cond5_0 : ¬ k0_cond5 0 = 1#1 := by decide
theorem cond5_1 : k0_cond5 1 = 1#1 := by decide
theorem cond5_2 : ¬ k0_cond5 2 = 1#1 := by decide
theorem cond5_3 : ¬ k0_cond5 3 = 1#1 := by decide
theorem cond6_0 : ¬ k0_cond6 0 = 1#1 := by decide
theorem cond6_1 : ¬ k0_cond6 1 = 1#1 := by decide
theorem cond6_2 : ¬ k0_cond6 2 = 1#1 := by decide
theorem cond6_3 : k0_cond6 3 = 1#1 := by decide
theorem v2_0 : Scalar.remsi (Scalar.divsi (Dev.word (0 : Dev nD)) 1#32) 4#32 = 0#32 := by decide
theorem is2_0 : ¬ Scalar.cmpi .ne ((Scalar.extui (Scalar.cmpi .eq 0#32 2#32) : BitVec 32)) 0#32 = 1#1 := by decide
theorem is12_0 : ¬ Scalar.cmpi .ne ((Scalar.extui (Scalar.ori (Scalar.cmpi .eq 0#32 1#32) (Scalar.cmpi .eq 0#32 2#32)) : BitVec 32)) 0#32 = 1#1 := by decide
theorem is0_0 : Scalar.cmpi .ne ((Scalar.extui (Scalar.cmpi .eq 0#32 0#32) : BitVec 32)) 0#32 = 1#1 := by decide
theorem is13_0 : ¬ Scalar.cmpi .ne ((Scalar.extui (Scalar.ori (Scalar.cmpi .eq 0#32 1#32) (Scalar.cmpi .eq 0#32 3#32)) : BitVec 32)) 0#32 = 1#1 := by decide
theorem v2_1 : Scalar.remsi (Scalar.divsi (Dev.word (1 : Dev nD)) 1#32) 4#32 = 1#32 := by decide
theorem is2_1 : ¬ Scalar.cmpi .ne ((Scalar.extui (Scalar.cmpi .eq 1#32 2#32) : BitVec 32)) 0#32 = 1#1 := by decide
theorem is12_1 : Scalar.cmpi .ne ((Scalar.extui (Scalar.ori (Scalar.cmpi .eq 1#32 1#32) (Scalar.cmpi .eq 1#32 2#32)) : BitVec 32)) 0#32 = 1#1 := by decide
theorem is0_1 : ¬ Scalar.cmpi .ne ((Scalar.extui (Scalar.cmpi .eq 1#32 0#32) : BitVec 32)) 0#32 = 1#1 := by decide
theorem is13_1 : Scalar.cmpi .ne ((Scalar.extui (Scalar.ori (Scalar.cmpi .eq 1#32 1#32) (Scalar.cmpi .eq 1#32 3#32)) : BitVec 32)) 0#32 = 1#1 := by decide
theorem v2_2 : Scalar.remsi (Scalar.divsi (Dev.word (2 : Dev nD)) 1#32) 4#32 = 2#32 := by decide
theorem is2_2 : Scalar.cmpi .ne ((Scalar.extui (Scalar.cmpi .eq 2#32 2#32) : BitVec 32)) 0#32 = 1#1 := by decide
theorem is12_2 : Scalar.cmpi .ne ((Scalar.extui (Scalar.ori (Scalar.cmpi .eq 2#32 1#32) (Scalar.cmpi .eq 2#32 2#32)) : BitVec 32)) 0#32 = 1#1 := by decide
theorem is0_2 : ¬ Scalar.cmpi .ne ((Scalar.extui (Scalar.cmpi .eq 2#32 0#32) : BitVec 32)) 0#32 = 1#1 := by decide
theorem is13_2 : ¬ Scalar.cmpi .ne ((Scalar.extui (Scalar.ori (Scalar.cmpi .eq 2#32 1#32) (Scalar.cmpi .eq 2#32 3#32)) : BitVec 32)) 0#32 = 1#1 := by decide
theorem v2_3 : Scalar.remsi (Scalar.divsi (Dev.word (3 : Dev nD)) 1#32) 4#32 = 3#32 := by decide
theorem is2_3 : ¬ Scalar.cmpi .ne ((Scalar.extui (Scalar.cmpi .eq 3#32 2#32) : BitVec 32)) 0#32 = 1#1 := by decide
theorem is12_3 : ¬ Scalar.cmpi .ne ((Scalar.extui (Scalar.ori (Scalar.cmpi .eq 3#32 1#32) (Scalar.cmpi .eq 3#32 2#32)) : BitVec 32)) 0#32 = 1#1 := by decide
theorem is0_3 : ¬ Scalar.cmpi .ne ((Scalar.extui (Scalar.cmpi .eq 3#32 0#32) : BitVec 32)) 0#32 = 1#1 := by decide
theorem is13_3 : Scalar.cmpi .ne ((Scalar.extui (Scalar.ori (Scalar.cmpi .eq 3#32 1#32) (Scalar.cmpi .eq 3#32 3#32)) : BitVec 32)) 0#32 = 1#1 := by decide

/-! ## Where the chunk accesses lie -/

theorem acc_k0 : (kM.access rc0).set ⊆ (ch0 kM).view.set := by rw [set_k0]; exact (View.set_slice_whole _ _).le
theorem acc_k1 : (kM.access rc1).set ⊆ (ch1 kM).view.set := by rw [set_k1]; exact (View.set_slice_whole _ _).le
theorem acc_v0 : (vM.access rc0).set ⊆ (ch0 vM).view.set := by rw [set_v0]; exact (View.set_slice_whole _ _).le
theorem acc_v1 : (vM.access rc1).set ⊆ (ch1 vM).view.set := by rw [set_v1]; exact (View.set_slice_whole _ _).le

/-- The identity copy of a block of device 0 into its landing buffer. -/
theorem copy_k (f : CK F) (g : CK F) :
    (kM.access rkw).write (Elt F) g (k0_pay1 ((skM.access rkw).read (Elt F) f)) Finset.univ = f := by
  refine (Memref.write_access_unit_zero_univ (Elt F) cc0_scratch0 (by funext a; fin_cases a <;> rfl) _ _ _).trans ?_
  unfold k0_pay1
  simp only [shapeCast_self]
  exact Memref.read_access_unit_zero (Elt F) cc0_stg2_0 (by funext a; fin_cases a <;> rfl) _ _
theorem copy_v (f : CV F) (g : CV F) :
    (vM.access rkw).write (Elt F) g (k0_pay2 ((svM.access rkw).read (Elt F) f)) Finset.univ = f := by
  refine (Memref.write_access_unit_zero_univ (Elt F) cc0_scratch1 (by funext a; fin_cases a <;> rfl) _ _ _).trans ?_
  unfold k0_pay2
  simp only [shapeCast_self]
  exact Memref.read_access_unit_zero (Elt F) cc0_stg3_0 (by funext a; fin_cases a <;> rfl) _ _

end Cert.Proof

end
-- ==== Proof.Body.lean ====
/-
  What the body of one device holds on entry and on exit.
-/
module

public import proofs.«01_k».proof.Proof.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## Families of twelve -/

theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## Tokens and credits -/

/-- Every right to pay that device `c` may use. -/
def toks (c : Dev nD) : sProp 𝕄 := bigSep Finset.univ (fun p : CIx => dutyTok EX (cellAt p) 0 c)

theorem toks_list (c : Dev nD) (l : List CIx) (hl : l.Nodup) :
    (toks (F := F) c : sProp 𝕄) ⊢ bigSepL l (fun p : CIx => (dutyTok EX (cellAt p) 0 c : sProp 𝕄)) := by
  unfold toks
  exact (bigSep_subset (Finset.subset_univ l.toFinset)).trans (Entails.of_eq (bigSep_eq_bigSepL_of_eq l rfl hl _))

/-- The ones device 0 uses. -/
theorem toks_0 : (toks (F := F) 0 : sProp 𝕄) ⊢ iprop(tokB 0 3 ∗ tokB 0 1 ∗ tokX 0 0 0 ∗ tokX 0 0 1 ∗ tokX 0 0 2 ∗ tokX 0 0 3 ∗ tokX 0 0 4 ∗ tokX 0 0 5 ∗ tokX 0 0 6 ∗ tokX 0 0 7 ∗ tokX 0 1 8 ∗ tokX 0 1 9 ∗ tokX 0 1 10 ∗ tokX 0 1 11 ∗ tokX 0 3 8 ∗ tokX 0 3 9 ∗ tokX 0 3 10 ∗ tokX 0 3 11) := by
  refine (toks_list 0 [((3, none) : CIx), ((1, none) : CIx), ((0, some 0) : CIx), ((0, some 1) : CIx), ((0, some 2) : CIx), ((0, some 3) : CIx), ((0, some 4) : CIx), ((0, some 5) : CIx), ((0, some 6) : CIx), ((0, some 7) : CIx), ((1, some 8) : CIx), ((1, some 9) : CIx), ((1, some 10) : CIx), ((1, some 11) : CIx), ((3, some 8) : CIx), ((3, some 9) : CIx), ((3, some 10) : CIx), ((3, some 11) : CIx)] (by decide)).trans ?_
  simp only [bigSepL_cons_cons, bigSepL_singleton, cellAt]
  exact BI.Entails.refl _

/-- The ones device 1 uses. -/
theorem toks_1 : (toks (F := F) 1 : sProp 𝕄) ⊢ iprop(tokB 1 0 ∗ tokB 1 2 ∗ tokX 1 1 0 ∗ tokX 1 1 1 ∗ tokX 1 2 8 ∗ tokX 1 2 9) := by
  refine (toks_list 1 [((0, none) : CIx), ((2, none) : CIx), ((1, some 0) : CIx), ((1, some 1) : CIx), ((2, some 8) : CIx), ((2, some 9) : CIx)] (by decide)).trans ?_
  simp only [bigSepL_cons_cons, bigSepL_singleton, cellAt]
  exact BI.Entails.refl _

/-- The ones device 2 uses. -/
theorem toks_2 : (toks (F := F) 2 : sProp 𝕄) ⊢ iprop(tokB 2 1 ∗ tokB 2 3) := by
  refine (toks_list 2 [((1, none) : CIx), ((3, none) : CIx)] (by decide)).trans ?_
  simp only [bigSepL_cons_cons, bigSepL_singleton, cellAt]
  exact BI.Entails.refl _

/-- The ones device 3 uses. -/
theorem toks_3 : (toks (F := F) 3 : sProp 𝕄) ⊢ iprop(tokB 3 2 ∗ tokB 3 0 ∗ tokX 3 3 0 ∗ tokX 3 3 1 ∗ tokX 3 2 10 ∗ tokX 3 2 11) := by
  refine (toks_list 3 [((2, none) : CIx), ((0, none) : CIx), ((3, some 0) : CIx), ((3, some 1) : CIx), ((2, some 10) : CIx), ((2, some 11) : CIx)] (by decide)).trans ?_
  simp only [bigSepL_cons_cons, bigSepL_singleton, cellAt]
  exact BI.Entails.refl _

/-- The credits a device's own waits spend that other devices will pay. -/
def creds (c : Dev nD) : sProp 𝕄 :=
  match c with
  | 0 => crB 0
  | c => iprop(crB c ∗ crX c 8 ∗ crX c 9 ∗ crX c 10 ∗ crX c 11)

/-! ## Entry and exit -/

/-- The staging blocks, held whole. -/
def staged (c : Dev nD) (fx : CX F) (fq : CWq F) (fk : CK F) (fv : CV F) (fo : CWo F) : sProp 𝕄 :=
  iprop((xM.view.loc (c : Thread nD τ) ↦{fullShare} fx) ∗ (wqM.view.loc (c : Thread nD τ) ↦{fullShare} fq) ∗ (skM.view.loc (c : Thread nD τ) ↦{fullShare} fk)
    ∗ (svM.view.loc (c : Thread nD τ) ↦{fullShare} fv) ∗ (woM.view.loc (c : Thread nD τ) ↦{fullShare} fo))

/-- The two landing buffers at contents not chosen. -/
def landing (c : Dev nD) : sProp 𝕄 :=
  iprop((∃ f : CK F, kM.view.loc (c : Thread nD τ) ↦{fullShare} f) ∗ (∃ f : CV F, vM.view.loc (c : Thread nD τ) ↦{fullShare} f))

/-- The ghost state of device `c` once its semaphores are opened. -/
def opened (c : Dev nD) : sProp 𝕄 :=
  iprop(recs m K ∗ posB c 0 ∗ bigSep Finset.univ (fun k => pos c k 0) ∗ bigSep Finset.univ (fun k => rch c k) ∗ toks c)

def bodyPre (c : Dev nD) (fx : CX F) (fq : CWq F) (fk : CK F) (fv : CV F) (fo : CWo F) (g : CO F) : sProp 𝕄 :=
  iprop(opened m K c ∗ levAts L lv ∗ creds c ∗ ow c (O₀ c) ∗ landing c ∗ staged c fx fq fk fv fo ∗ (oM.view.loc (c : Thread nD τ) ↦{fullShare} g))

def bodyPost (c : Dev nD) (fx : CX F) (fq : CWq F) (fk : CK F) (fv : CV F) (fo : CWo F) (g : CO F) : sProp 𝕄 :=
  iprop(semVal (barCell c) 0 ∗ bigSep Finset.univ (fun k => semVal (xCell c k) 0) ∗ ow c 0 ∗ landing c ∗ staged c fx fq fk fv fo
    ∗ (oM.view.loc (c : Thread nD τ) ↦{fullShare} outF fx fq (KK m) (VV m) fo g))

/-- The kernel's body on its staging buffers and scratch. -/
abbrev bodyProg : Prog (TpuEff nD τ sig (Elt F) Λ₀ .tc) PUnit :=
  cc0__body xM (Memref.isWhole_whole _) wqM (Memref.isWhole_whole _) skM (Memref.isWhole_whole _) svM (Memref.isWhole_whole _)
    woM (Memref.isWhole_whole _) oM (Memref.isWhole_whole _) kM (Memref.isWhole_whole _) vM (Memref.isWhole_whole _)
    cc0_scratch2 cc0_scratch3 cc0_scratch4

theorem barPay_01 : barPay (F := F) 0 1 = (iprop(free (ch0 kM) 1 ∗ free (ch1 kM) 1 ∗ free (ch0 vM) 1 ∗ free (ch1 vM) 1 ∗ reached EX (xCell 1 8) 0 ∗ reached EX (xCell 1 9) 0 ∗ reached EX (xCell 1 10) 0 ∗ reached EX (xCell 1 11) 0) : sProp 𝕄) := rfl
theorem barPay_03 : barPay (F := F) 0 3 = (iprop(free (ch0 kM) 3 ∗ free (ch1 kM) 3 ∗ free (ch0 vM) 3 ∗ free (ch1 vM) 3 ∗ reached EX (xCell 3 8) 0 ∗ reached EX (xCell 3 9) 0 ∗ reached EX (xCell 3 10) 0 ∗ reached EX (xCell 3 11) 0) : sProp 𝕄) := rfl
theorem barPay_12 : barPay (F := F) 1 2 = (iprop(free (ch0 kM) 2 ∗ free (ch1 kM) 2 ∗ reached EX (xCell 2 8) 0 ∗ reached EX (xCell 2 9) 0) : sProp 𝕄) := rfl
theorem barPay_32 : barPay (F := F) 3 2 = (iprop(free (ch0 vM) 2 ∗ free (ch1 vM) 2 ∗ reached EX (xCell 2 10) 0 ∗ reached EX (xCell 2 11) 0) : sProp 𝕄) := rfl

theorem barPay_10 : (emp : sProp 𝕄) ⊢ barPay (F := F) 1 0 := BI.Entails.refl _
theorem barPay_30 : (emp : sProp 𝕄) ⊢ barPay (F := F) 3 0 := BI.Entails.refl _
theorem barPay_21 : (emp : sProp 𝕄) ⊢ barPay (F := F) 2 1 := BI.Entails.refl _
theorem barPay_23 : (emp : sProp 𝕄) ⊢ barPay (F := F) 2 3 := BI.Entails.refl _
theorem bar_split_0 : bigSep (nbrs 0) (barPay (F := F) 0) ⊢ (iprop(barPay 0 1 ∗ barPay 0 3) : sProp 𝕄) :=
  Entails.of_eq (bigSep_eq_bigSepL_of_eq (S := nbrs 0) [1, 3] (by decide) (by decide) (barPay 0))
theorem bar_split_1 : bigSep (nbrs 1) (barPay (F := F) 1) ⊢ (iprop(barPay 1 0 ∗ barPay 1 2) : sProp 𝕄) :=
  Entails.of_eq (bigSep_eq_bigSepL_of_eq (S := nbrs 1) [0, 2] (by decide) (by decide) (barPay 1))
theorem bar_split_3 : bigSep (nbrs 3) (barPay (F := F) 3) ⊢ (iprop(barPay 3 0 ∗ barPay 3 2) : sProp 𝕄) :=
  Entails.of_eq (bigSep_eq_bigSepL_of_eq (S := nbrs 3) [0, 2] (by decide) (by decide) (barPay 3))

/-! ## Closing -/

theorem close_x (c : Dev nD) (k : Fin 12) (r : ℕ) (h : r = 1 ∨ xDuties c k = ∅) :
    iprop(recs m K ∗ pos c k r) ⊢ (|={Set.univ}=> semVal (xCell c k) 0 : sProp 𝕄) :=
  (sep_mono_left (recs_x m K c k)).trans
    (Rounds.cell_close EX (sched m) (Set.mem_univ _) id (fun r' hr => by
      rcases h with rfl | h
      · exact duties_later m _ r' hr
      · exact duties_none m c k h r' (Nat.zero_le _)))

theorem close_bar (c : Dev nD) : iprop(recs m K ∗ posB c 1) ⊢ (|={Set.univ}=> semVal (barCell c) 0 : sProp 𝕄) :=
  (sep_mono_left (recs_bar m K c)).trans (Rounds.cell_close EX (sched m) (Set.mem_univ _) id (duties_later m _))

theorem close_all (c : Dev nD) (r : Fin 12 → ℕ) (h : ∀ k, r k = 1 ∨ xDuties c k = ∅) :
    iprop(recs m K ∗ bigSep Finset.univ (fun k => pos c k (r k)))
      ⊢ (|={Set.univ}=> bigSep Finset.univ (fun k => semVal (xCell c k) 0) : sProp 𝕄) := by
  refine BI.Entails.trans ?_ (bigSep_fupd _ _)
  exact bigSep_with_persistent (fun k _ => close_x m K c k (r k) (h k))

end Cert.Proof

end
-- ==== Proof.Run0.lean ====
/-
  The body's run on device 0.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- The body's run on device 0. -/
theorem run_0 (fx : CX F) (fq : CWq F) (fo : CWo F) (g : CO F) (Kt : PUnit → sProp 𝕄) :
    bodyPre m K 0 fx fq (KK m) (VV m) fo g ⊢ iprop((bodyPost m 0 fx fq (KK m) (VV m) fo g -∗ Kt ⟨⟩) -∗ Wp 0 (bodyProg (F := F)) Kt) := by
  unfold bodyProg
  rw [cc0__body_eq_skeleton]; unfold cc0__body_skel
  rw [k0_part8_eq_skeleton]; unfold k0_part8_skel
  simp only [semSignalWord, semWaitWord, Prog.lift, Prog.bind_op, Prog.bind_ret, Prog.pure_eq_ret, wp_deviceId, v2_0]
  unfold bodyPre opened landing staged
  iintro ⟨⟨#Hr, HpB, Hpos, Hrch, Htok⟩, #Hlev, Hcred, HO, ⟨⟨%fkb, Hk⟩, ⟨%fvb, Hv⟩⟩, ⟨Hx, Hwq, Hsk, Hsv, Hwo⟩, Ho⟩ Hend
  ihave Hcred := (show creds 0 ⊢ (iprop(crB 0) : sProp 𝕄) from BI.Entails.refl _) $$ Hcred
  icases Hcred with HcB
  ihave Htok := (toks_0) $$ Htok
  icases Htok with ⟨HtB_3, HtB_1, Ht0_0, Ht1_0, Ht2_0, Ht3_0, Ht4_0, Ht5_0, Ht6_0, Ht7_0, Ht8_1, Ht9_1, Ht10_1, Ht11_1, Ht8_3, Ht9_3, Ht10_3, Ht11_3⟩
  ihave Hpos := (Entails.of_eq (bigSep_fin12 _)) $$ Hpos
  icases Hpos with ⟨Hp0, Hp1, Hp2, Hp3, Hp4, Hp5, Hp6, Hp7, Hp8, Hp9, Hp10, Hp11⟩
  ihave Hrch := (Entails.of_eq (bigSep_fin12 _)) $$ Hrch
  icases Hrch with ⟨#Hr0, #Hr1, #Hr2, #Hr3, #Hr4, #Hr5, #Hr6, #Hr7, #Hr8, #Hr9, #Hr10, #Hr11⟩
  iapply (step_signal m K 0 3 dev1_0 (by decide) (O₁ 0 + oweB 1) (by decide)) $$ [HO HtB_3]
  · isplitr; · iexact Hr
    isplitl [HO]; · iexact HO
    isplitl [HtB_3]; · iexact HtB_3
    iapply barPay_30
    iempintro
  iintro HO
  iapply (step_signal m K 0 1 dev2_0 (by decide) (O₁ 0) (by decide)) $$ [HO HtB_1]
  · isplitr; · iexact Hr
    isplitl [HO]; · iexact HO
    isplitl [HtB_1]; · iexact HtB_1
    iapply barPay_10
    iempintro
  iintro HO
  iapply (step_barrier m K 0 (O₁ 0) (above_O₁ 0) (by decide)) $$ [HcB HO HpB]
  · isplitr; · iexact Hr
    isplitr; · iexact Hlev
    isplitl [HcB]; · iexact HcB
    isplitl [HO]; · iexact HO
    iexact HpB
  iintro ⟨HO, HpB, Hbar⟩
  ihave Hbar := bar_split_0 $$ Hbar
  icases Hbar with ⟨Hb1, Hb3⟩
  ihave Hb1 := (Entails.of_eq barPay_01) $$ Hb1
  ihave Hb3 := (Entails.of_eq barPay_03) $$ Hb3
  icases Hb1 with ⟨HDk0_1, HDk1_1, HDv0_1, HDv1_1, #HR1_8, #HR1_9, #HR1_10, #HR1_11⟩
  icases Hb3 with ⟨HDk0_3, HDk1_3, HDv0_3, HDv1_3, #HR3_8, #HR3_9, #HR3_10, #HR3_11⟩
  ihave HO := (show ow 0 (O₁ 0) ⊢ ow 0 (0 + owe 3 9 + owe 3 8 + owe 1 11 + owe 1 10 + owe 3 11 + owe 3 10 + owe 1 9 + owe 1 8) from BI.Entails.refl _) $$ HO
  rw [k0_part9_eq_skeleton]; unfold k0_part9_skel
  simp only [semSignalWord, semWaitWord, Prog.lift, Prog.bind_op, Prog.bind_ret, Prog.pure_eq_ret, wp_deviceId, dif_pos cond1_0, k0_part1_eq_skeleton, k0_part2_eq_skeleton, k0_part3_eq_skeleton, k0_part1_skel, k0_part2_skel, k0_part3_skel]
  ihave Hsk := (pointsTo_share (PosShare.mem_left_op_right fullShare)).1 $$ Hsk
  icases Hsk with ⟨Hskl, Hsk⟩
  ihave Hskl := (pointsTo_share (PosShare.mem_left_op_right fullShare.left)).1 $$ Hskl
  icases Hskl with ⟨Hska, Hskb⟩
  ihave Hska := (two_sk 0 fullShare.left.left (KK m)).1 $$ Hska
  icases Hska with ⟨Hska0, Hska1⟩
  ihave Hskb := (two_sk 0 fullShare.left.right (KK m)).1 $$ Hskb
  icases Hskb with ⟨Hskb0, Hskb1⟩
  ihave Hsv := (pointsTo_share (PosShare.mem_left_op_right fullShare)).1 $$ Hsv
  icases Hsv with ⟨Hsvl, Hsv⟩
  ihave Hsvl := (pointsTo_share (PosShare.mem_left_op_right fullShare.left)).1 $$ Hsvl
  icases Hsvl with ⟨Hsva, Hsvb⟩
  ihave Hsva := (two_sv 0 fullShare.left.left (VV m)).1 $$ Hsva
  icases Hsva with ⟨Hsva0, Hsva1⟩
  ihave Hsvb := (two_sv 0 fullShare.left.right (VV m)).1 $$ Hsvb
  icases Hsvb with ⟨Hsvb0, Hsvb1⟩
  iapply (step_send m K 0 1 0 8 (0 + owe 3 9 + owe 3 8 + owe 1 11 + owe 1 10 + owe 3 11 + owe 3 10 + owe 1 9) (q := fullShare.left.left) (src := ch0 skM) (dst := ch0 kM) (fs := KK m) (BI.Entails.refl _) (fun fd => landed_sk0 0 1 fd _) rfl rfl (dev3 0 cond1_0) rfl rfl rfl) $$ [Hska0 HDk0_1 HO Ht0_0 Ht8_1]
  · isplitr; · iexact Hr
    isplitl [Hska0]; · iexact Hska0
    isplitl [HDk0_1]; · iexact HDk0_1
    isplitl [HO]; · iexact HO
    isplitl [Ht0_0]; · iexact Ht0_0
    isplitr; · iexact Hr0
    isplitl [Ht8_1]; · iexact Ht8_1
    iexact HR1_8
  iintro ⟨Hc0, HO⟩
  iapply (step_send m K 0 1 1 9 (0 + owe 3 9 + owe 3 8 + owe 1 11 + owe 1 10 + owe 3 11 + owe 3 10) (q := fullShare.left.left) (src := ch1 skM) (dst := ch1 kM) (fs := KK m) (BI.Entails.refl _) (fun fd => landed_sk1 0 1 fd _) rfl rfl (dev4 0 cond1_0) rfl rfl rfl) $$ [Hska1 HDk1_1 HO Ht1_0 Ht9_1]
  · isplitr; · iexact Hr
    isplitl [Hska1]; · iexact Hska1
    isplitl [HDk1_1]; · iexact HDk1_1
    isplitl [HO]; · iexact HO
    isplitl [Ht1_0]; · iexact Ht1_0
    isplitr; · iexact Hr1
    isplitl [Ht9_1]; · iexact Ht9_1
    iexact HR1_9
  iintro ⟨Hc1, HO⟩
  iapply (step_send m K 0 3 2 10 (0 + owe 3 9 + owe 3 8 + owe 1 11 + owe 1 10 + owe 3 11) (q := fullShare.left.left) (src := ch0 svM) (dst := ch0 vM) (fs := VV m) (BI.Entails.refl _) (fun fd => landed_sv0 0 3 fd _) rfl rfl (dev5 0 cond1_0) rfl rfl rfl) $$ [Hsva0 HDv0_3 HO Ht2_0 Ht10_3]
  · isplitr; · iexact Hr
    isplitl [Hsva0]; · iexact Hsva0
    isplitl [HDv0_3]; · iexact HDv0_3
    isplitl [HO]; · iexact HO
    isplitl [Ht2_0]; · iexact Ht2_0
    isplitr; · iexact Hr2
    isplitl [Ht10_3]; · iexact Ht10_3
    iexact HR3_10
  iintro ⟨Hc2, HO⟩
  iapply (step_send m K 0 3 3 11 (0 + owe 3 9 + owe 3 8 + owe 1 11 + owe 1 10) (q := fullShare.left.left) (src := ch1 svM) (dst := ch1 vM) (fs := VV m) (BI.Entails.refl _) (fun fd => landed_sv1 0 3 fd _) rfl rfl (dev6 0 cond1_0) rfl rfl rfl) $$ [Hsva1 HDv1_3 HO Ht3_0 Ht11_3]
  · isplitr; · iexact Hr
    isplitl [Hsva1]; · iexact Hsva1
    isplitl [HDv1_3]; · iexact HDv1_3
    isplitl [HO]; · iexact HO
    isplitl [Ht3_0]; · iexact Ht3_0
    isplitr; · iexact Hr3
    isplitl [Ht11_3]; · iexact Ht11_3
    iexact HR3_11
  iintro ⟨Hc3, HO⟩
  iapply (step_send m K 0 1 4 10 (0 + owe 3 9 + owe 3 8 + owe 1 11) (q := fullShare.left.right) (src := ch0 svM) (dst := ch0 vM) (fs := VV m) (BI.Entails.refl _) (fun fd => landed_sv0 0 1 fd _) rfl rfl (dev7 0 cond1_0) rfl rfl rfl) $$ [Hsvb0 HDv0_1 HO Ht4_0 Ht10_1]
  · isplitr; · iexact Hr
    isplitl [Hsvb0]; · iexact Hsvb0
    isplitl [HDv0_1]; · iexact HDv0_1
    isplitl [HO]; · iexact HO
    isplitl [Ht4_0]; · iexact Ht4_0
    isplitr; · iexact Hr4
    isplitl [Ht10_1]; · iexact Ht10_1
    iexact HR1_10
  iintro ⟨Hc4, HO⟩
  iapply (step_send m K 0 1 5 11 (0 + owe 3 9 + owe 3 8) (q := fullShare.left.right) (src := ch1 svM) (dst := ch1 vM) (fs := VV m) (BI.Entails.refl _) (fun fd => landed_sv1 0 1 fd _) rfl rfl (dev8 0 cond1_0) rfl rfl rfl) $$ [Hsvb1 HDv1_1 HO Ht5_0 Ht11_1]
  · isplitr; · iexact Hr
    isplitl [Hsvb1]; · iexact Hsvb1
    isplitl [HDv1_1]; · iexact HDv1_1
    isplitl [HO]; · iexact HO
    isplitl [Ht5_0]; · iexact Ht5_0
    isplitr; · iexact Hr5
    isplitl [Ht11_1]; · iexact Ht11_1
    iexact HR1_11
  iintro ⟨Hc5, HO⟩
  iapply (step_send m K 0 3 6 8 (0 + owe 3 9) (q := fullShare.left.right) (src := ch0 skM) (dst := ch0 kM) (fs := KK m) (BI.Entails.refl _) (fun fd => landed_sk0 0 3 fd _) rfl rfl (dev9 0 cond1_0) rfl rfl rfl) $$ [Hskb0 HDk0_3 HO Ht6_0 Ht8_3]
  · isplitr; · iexact Hr
    isplitl [Hskb0]; · iexact Hskb0
    isplitl [HDk0_3]; · iexact HDk0_3
    isplitl [HO]; · iexact HO
    isplitl [Ht6_0]; · iexact Ht6_0
    isplitr; · iexact Hr6
    isplitl [Ht8_3]; · iexact Ht8_3
    iexact HR3_8
  iintro ⟨Hc6, HO⟩
  iapply (step_send m K 0 3 7 9 (0) (q := fullShare.left.right) (src := ch1 skM) (dst := ch1 kM) (fs := KK m) (BI.Entails.refl _) (fun fd => landed_sk1 0 3 fd _) rfl rfl (dev10 0 cond1_0) rfl rfl rfl) $$ [Hskb1 HDk1_3 HO Ht7_0 Ht9_3]
  · isplitr; · iexact Hr
    isplitl [Hskb1]; · iexact Hskb1
    isplitl [HDk1_3]; · iexact HDk1_3
    isplitl [HO]; · iexact HO
    isplitl [Ht7_0]; · iexact Ht7_0
    isplitr; · iexact Hr7
    isplitl [Ht9_3]; · iexact Ht9_3
    iexact HR3_9
  iintro ⟨Hc7, HO⟩
  iapply (wp_load_rect 𝒱₀ ((0 : Dev nD) : Thread nD τ) none Set.univ (m := skM) (r := rkw) (S := Finset.univ) (q := fullShare.right) (f := KK m) (Finset.subset_univ _)) $$ [Hsk]
  · iexact Hsk
  iintro Hsk
  iapply (wp_load_rect 𝒱₀ ((0 : Dev nD) : Thread nD τ) none Set.univ (m := kM) (r := rkw) (S := Finset.univ) (q := fullShare) (f := fkb) (Finset.subset_univ _)) $$ [Hk]
  · iexact Hk
  iintro Hk
  iapply (wp_store 𝒱₀ ((0 : Dev nD) : Thread nD τ) none Set.univ (m := kM) (r := rkw) (S := Finset.univ) (Finset.subset_univ _)) $$ [Hk]
  · iexact Hk
  iintro Hk
  ihave Hk := (Entails.of_eq (congrArg (fun f : CK F => (kM.view.loc ((0 : Dev nD) : Thread nD τ) ↦{fullShare} f : sProp 𝕄)) (copy_k (KK m) fkb))) $$ Hk
  iapply (wp_load_rect 𝒱₀ ((0 : Dev nD) : Thread nD τ) none Set.univ (m := svM) (r := rkw) (S := Finset.univ) (q := fullShare.right) (f := VV m) (Finset.subset_univ _)) $$ [Hsv]
  · iexact Hsv
  iintro Hsv
  iapply (wp_load_rect 𝒱₀ ((0 : Dev nD) : Thread nD τ) none Set.univ (m := vM) (r := rkw) (S := Finset.univ) (q := fullShare) (f := fvb) (Finset.subset_univ _)) $$ [Hv]
  · iexact Hv
  iintro Hv
  iapply (wp_store 𝒱₀ ((0 : Dev nD) : Thread nD τ) none Set.univ (m := vM) (r := rkw) (S := Finset.univ) (Finset.subset_univ _)) $$ [Hv]
  · iexact Hv
  iintro Hv
  ihave Hv := (Entails.of_eq (congrArg (fun f : CV F => (vM.view.loc ((0 : Dev nD) : Thread nD τ) ↦{fullShare} f : sProp 𝕄)) (copy_v (VV m) fvb))) $$ Hv
  rw [k0_part10_eq_skeleton]; unfold k0_part10_skel
  simp only [semSignalWord, semWaitWord, Prog.lift, Prog.bind_op, Prog.bind_ret, Prog.pure_eq_ret, wp_deviceId, dif_neg cond2_0, dif_neg cond3_0, dif_neg is2_0]
  iapply (wp_load_rect 𝒱₀ ((0 : Dev nD) : Thread nD τ) none Set.univ (m := xM) (r := rx0) (S := Finset.univ) (q := fullShare) (f := fx) (Finset.subset_univ _)) $$ [Hx]
  · iexact Hx
  iintro Hx
  iapply (wp_load_rect 𝒱₀ ((0 : Dev nD) : Thread nD τ) none Set.univ (m := wqM) (r := rwq) (S := Finset.univ) (q := fullShare) (f := fq) (Finset.subset_univ _)) $$ [Hwq]
  · iexact Hwq
  iintro Hwq
  iapply (wp_load_rect 𝒱₀ ((0 : Dev nD) : Thread nD τ) none Set.univ (m := xM) (r := rx1) (S := Finset.univ) (q := fullShare) (f := fx) (Finset.subset_univ _)) $$ [Hx]
  · iexact Hx
  iintro Hx
  iapply (wp_load_rect 𝒱₀ ((0 : Dev nD) : Thread nD τ) none Set.univ (m := wqM) (r := rwq) (S := Finset.univ) (q := fullShare) (f := fq) (Finset.subset_univ _)) $$ [Hwq]
  · iexact Hwq
  iintro Hwq
  rw [k0_part11_eq_skeleton]; unfold k0_part11_skel
  simp only [semSignalWord, semWaitWord, Prog.lift, Prog.bind_op, Prog.bind_ret, Prog.pure_eq_ret, wp_deviceId]
  iapply (wp_load_rect 𝒱₀ ((0 : Dev nD) : Thread nD τ) none Set.univ (m := kM) (r := rc0) (S := Finset.univ) (q := fullShare) (f := KK m) (Finset.subset_univ _)) $$ [Hk]
  · iexact Hk
  iintro Hk
  rw [k0_part12_eq_skeleton]; unfold k0_part12_skel
  simp only [semSignalWord, semWaitWord, Prog.lift, Prog.bind_op, Prog.bind_ret, Prog.pure_eq_ret, wp_deviceId, dif_neg cond5_0, dif_neg cond6_0, dif_neg is2_0]
  iapply (wp_load_rect 𝒱₀ ((0 : Dev nD) : Thread nD τ) none Set.univ (m := kM) (r := rc1) (S := Finset.univ) (q := fullShare) (f := KK m) (Finset.subset_univ _)) $$ [Hk]
  · iexact Hk
  iintro Hk
  rw [k0_part13_eq_skeleton]; unfold k0_part13_skel
  simp only [semSignalWord, semWaitWord, Prog.lift, Prog.bind_op, Prog.bind_ret, Prog.pure_eq_ret, wp_deviceId, dif_neg is12_0]
  iapply (wp_load_rect 𝒱₀ ((0 : Dev nD) : Thread nD τ) none Set.univ (m := vM) (r := rc0) (S := Finset.univ) (q := fullShare) (f := VV m) (Finset.subset_univ _)) $$ [Hv]
  · iexact Hv
  iintro Hv
  iapply (wp_load_rect 𝒱₀ ((0 : Dev nD) : Thread nD τ) none Set.univ (m := woM) (r := rwo) (S := Finset.univ) (q := fullShare) (f := fo) (Finset.subset_univ _)) $$ [Hwo]
  · iexact Hwo
  iintro Hwo
  rw [k0_part14_eq_skeleton]; unfold k0_part14_skel
  simp only [semSignalWord, semWaitWord, Prog.lift, Prog.bind_op, Prog.bind_ret, Prog.pure_eq_ret, wp_deviceId, dif_neg is12_0, dif_pos is0_0, k0_part6_eq_skeleton, k0_part6_skel, k0_part7_eq_skeleton, k0_part7_skel, dif_neg is13_0]
  iapply (wp_load_rect 𝒱₀ ((0 : Dev nD) : Thread nD τ) none Set.univ (m := oM) (r := rx0) (S := Finset.univ) (q := fullShare) (f := g) (Finset.subset_univ _)) $$ [Ho]
  · iexact Ho
  iintro Ho
  iapply (wp_store 𝒱₀ ((0 : Dev nD) : Thread nD τ) none Set.univ (m := oM) (r := rx0) (S := Finset.univ) (Finset.subset_univ _)) $$ [Ho]
  · iexact Ho
  iintro Ho
  iapply (wp_load_rect 𝒱₀ ((0 : Dev nD) : Thread nD τ) none Set.univ (m := vM) (r := rc1) (S := Finset.univ) (q := fullShare) (f := VV m) (Finset.subset_univ _)) $$ [Hv]
  · iexact Hv
  iintro Hv
  iapply (wp_load_rect 𝒱₀ ((0 : Dev nD) : Thread nD τ) none Set.univ (m := woM) (r := rwo) (S := Finset.univ) (q := fullShare) (f := fo) (Finset.subset_univ _)) $$ [Hwo]
  · iexact Hwo
  iintro Hwo
  iapply (wp_load_rect 𝒱₀ ((0 : Dev nD) : Thread nD τ) none Set.univ (m := oM) (r := rx1) (S := Finset.univ) (q := fullShare) (f := _) (Finset.subset_univ _)) $$ [Ho]
  · iexact Ho
  iintro Ho
  iapply (wp_store 𝒱₀ ((0 : Dev nD) : Thread nD τ) none Set.univ (m := oM) (r := rx1) (S := Finset.univ) (Finset.subset_univ _)) $$ [Ho]
  · iexact Ho
  iintro Ho
  iapply (step_wait m K 0 0 0 (0) (above_zero _) rfl rfl (src := ch0 kM) (dst := ch0 skM) rfl) $$ [Hc0 HO Hp0]
  · isplitr; · iexact Hr
    isplitr; · iexact Hlev
    isplitl [Hc0]; · iexact Hc0
    isplitl [HO]; · iexact HO
    iexact Hp0
  iintro ⟨HO, Hp0, Hska0⟩
  ihave Hska0 := (show xPay m 0 0 ⊢ cpt (ch0 skM) 0 fullShare.left.left (KK m) from BI.Entails.refl _) $$ Hska0
  iapply (step_wait m K 0 0 1 (0) (above_zero _) rfl rfl (src := ch0 kM) (dst := ch0 skM) rfl) $$ [Hc1 HO Hp1]
  · isplitr; · iexact Hr
    isplitr; · iexact Hlev
    isplitl [Hc1]; · iexact Hc1
    isplitl [HO]; · iexact HO
    iexact Hp1
  iintro ⟨HO, Hp1, Hska1⟩
  ihave Hska1 := (show xPay m 0 1 ⊢ cpt (ch1 skM) 0 fullShare.left.left (KK m) from BI.Entails.refl _) $$ Hska1
  iapply (step_wait m K 0 0 2 (0) (above_zero _) rfl rfl (src := ch0 kM) (dst := ch0 skM) rfl) $$ [Hc2 HO Hp2]
  · isplitr; · iexact Hr
    isplitr; · iexact Hlev
    isplitl [Hc2]; · iexact Hc2
    isplitl [HO]; · iexact HO
    iexact Hp2
  iintro ⟨HO, Hp2, Hsva0⟩
  ihave Hsva0 := (show xPay m 0 2 ⊢ cpt (ch0 svM) 0 fullShare.left.left (VV m) from BI.Entails.refl _) $$ Hsva0
  iapply (step_wait m K 0 0 3 (0) (above_zero _) rfl rfl (src := ch0 kM) (dst := ch0 skM) rfl) $$ [Hc3 HO Hp3]
  · isplitr; · iexact Hr
    isplitr; · iexact Hlev
    isplitl [Hc3]; · iexact Hc3
    isplitl [HO]; · iexact HO
    iexact Hp3
  iintro ⟨HO, Hp3, Hsva1⟩
  ihave Hsva1 := (show xPay m 0 3 ⊢ cpt (ch1 svM) 0 fullShare.left.left (VV m) from BI.Entails.refl _) $$ Hsva1
  iapply (step_wait m K 0 0 4 (0) (above_zero _) rfl rfl (src := ch0 kM) (dst := ch0 skM) rfl) $$ [Hc4 HO Hp4]
  · isplitr; · iexact Hr
    isplitr; · iexact Hlev
    isplitl [Hc4]; · iexact Hc4
    isplitl [HO]; · iexact HO
    iexact Hp4
  iintro ⟨HO, Hp4, Hsvb0⟩
  ihave Hsvb0 := (show xPay m 0 4 ⊢ cpt (ch0 svM) 0 fullShare.left.right (VV m) from BI.Entails.refl _) $$ Hsvb0
  iapply (step_wait m K 0 0 5 (0) (above_zero _) rfl rfl (src := ch0 kM) (dst := ch0 skM) rfl) $$ [Hc5 HO Hp5]
  · isplitr; · iexact Hr
    isplitr; · iexact Hlev
    isplitl [Hc5]; · iexact Hc5
    isplitl [HO]; · iexact HO
    iexact Hp5
  iintro ⟨HO, Hp5, Hsvb1⟩
  ihave Hsvb1 := (show xPay m 0 5 ⊢ cpt (ch1 svM) 0 fullShare.left.right (VV m) from BI.Entails.refl _) $$ Hsvb1
  iapply (step_wait m K 0 0 6 (0) (above_zero _) rfl rfl (src := ch0 kM) (dst := ch0 skM) rfl) $$ [Hc6 HO Hp6]
  · isplitr; · iexact Hr
    isplitr; · iexact Hlev
    isplitl [Hc6]; · iexact Hc6
    isplitl [HO]; · iexact HO
    iexact Hp6
  iintro ⟨HO, Hp6, Hskb0⟩
  ihave Hskb0 := (show xPay m 0 6 ⊢ cpt (ch0 skM) 0 fullShare.left.right (KK m) from BI.Entails.refl _) $$ Hskb0
  iapply (step_wait m K 0 0 7 (0) (above_zero _) rfl rfl (src := ch0 kM) (dst := ch0 skM) rfl) $$ [Hc7 HO Hp7]
  · isplitr; · iexact Hr
    isplitr; · iexact Hlev
    isplitl [Hc7]; · iexact Hc7
    isplitl [HO]; · iexact HO
    iexact Hp7
  iintro ⟨HO, Hp7, Hskb1⟩
  ihave Hskb1 := (show xPay m 0 7 ⊢ cpt (ch1 skM) 0 fullShare.left.right (KK m) from BI.Entails.refl _) $$ Hskb1
  ihave Hska := (two_sk 0 fullShare.left.left (KK m)).2 $$ [Hska0 Hska1]
  · isplitl [Hska0]; · iexact Hska0
    iexact Hska1
  ihave Hskb := (two_sk 0 fullShare.left.right (KK m)).2 $$ [Hskb0 Hskb1]
  · isplitl [Hskb0]; · iexact Hskb0
    iexact Hskb1
  ihave Hskl := (pointsTo_share (PosShare.mem_left_op_right fullShare.left)).2 $$ [Hska Hskb]
  · isplitl [Hska]; · iexact Hska
    iexact Hskb
  ihave Hsk := (pointsTo_share (PosShare.mem_left_op_right fullShare)).2 $$ [Hskl Hsk]
  · isplitl [Hskl]; · iexact Hskl
    iexact Hsk
  ihave Hsva := (two_sv 0 fullShare.left.left (VV m)).2 $$ [Hsva0 Hsva1]
  · isplitl [Hsva0]; · iexact Hsva0
    iexact Hsva1
  ihave Hsvb := (two_sv 0 fullShare.left.right (VV m)).2 $$ [Hsvb0 Hsvb1]
  · isplitl [Hsvb0]; · iexact Hsvb0
    iexact Hsvb1
  ihave Hsvl := (pointsTo_share (PosShare.mem_left_op_right fullShare.left)).2 $$ [Hsva Hsvb]
  · isplitl [Hsva]; · iexact Hsva
    iexact Hsvb
  ihave Hsv := (pointsTo_share (PosShare.mem_left_op_right fullShare)).2 $$ [Hsvl Hsv]
  · isplitl [Hsvl]; · iexact Hsvl
    iexact Hsv
  unfold Wp; rw [wp_ret]
  imod (close_bar m K 0) $$ [HpB] with Hs
  · isplitr; · iexact Hr
    iexact HpB
  imod (close_all m K 0 (fun k => if k.val ∈ ([0, 1, 2, 3, 4, 5, 6, 7] : List ℕ) then 1 else 0) (by decide)) $$ [Hp0 Hp1 Hp2 Hp3 Hp4 Hp5 Hp6 Hp7 Hp8 Hp9 Hp10 Hp11] with Hss
  · isplitr; · iexact Hr
    rw [bigSep_fin12]
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    iexact Hp11
  imodintro
  iapply Hend
  unfold bodyPost landing staged
  isplitl [Hs]; · iexact Hs
  isplitl [Hss]; · iexact Hss
  isplitl [HO]; · iexact HO
  isplitl [Hk Hv]
  · isplitl [Hk]; · iexists _; iexact Hk
    iexists _; iexact Hv
  isplitl [Hx Hwq Hsk Hsv Hwo]
  · isplitl [Hx]; · iexact Hx
    isplitl [Hwq]; · iexact Hwq
    isplitl [Hsk]; · iexact Hsk
    isplitl [Hsv]; · iexact Hsv
    iexact Hwo
  iexact Ho

end Cert.Proof

end
-- ==== Proof.Run1.lean ====
/-
  The body's run on device 1.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- The body's run on device 1. -/
theorem run_1 (fx : CX F) (fq : CWq F) (fk : CK F) (fv : CV F) (fo : CWo F) (g : CO F) (Kt : PUnit → sProp 𝕄) :
    bodyPre m K 1 fx fq fk fv fo g ⊢ iprop((bodyPost m 1 fx fq fk fv fo g -∗ Kt ⟨⟩) -∗ Wp 1 (bodyProg (F := F)) Kt) := by
  unfold bodyProg
  rw [cc0__body_eq_skeleton]; unfold cc0__body_skel
  rw [k0_part8_eq_skeleton]; unfold k0_part8_skel
  simp only [semSignalWord, semWaitWord, Prog.lift, Prog.bind_op, Prog.bind_ret, Prog.pure_eq_ret, wp_deviceId, v2_1]
  unfold bodyPre opened landing staged
  iintro ⟨⟨#Hr, HpB, Hpos, Hrch, Htok⟩, #Hlev, Hcred, HO, ⟨⟨%fkb, Hk⟩, ⟨%fvb, Hv⟩⟩, ⟨Hx, Hwq, Hsk, Hsv, Hwo⟩, Ho⟩ Hend
  ihave Hcred := (show creds 1 ⊢ (iprop(crB 1 ∗ crX 1 8 ∗ crX 1 9 ∗ crX 1 10 ∗ crX 1 11) : sProp 𝕄) from BI.Entails.refl _) $$ Hcred
  icases Hcred with ⟨HcB, Hc8, Hc9, Hc10, Hc11⟩
  ihave Htok := (toks_1) $$ Htok
  icases Htok with ⟨HtB_0, HtB_2, Ht0_1, Ht1_1, Ht8_2, Ht9_2⟩
  ihave Hpos := (Entails.of_eq (bigSep_fin12 _)) $$ Hpos
  icases Hpos with ⟨Hp0, Hp1, Hp2, Hp3, Hp4, Hp5, Hp6, Hp7, Hp8, Hp9, Hp10, Hp11⟩
  ihave Hrch := (Entails.of_eq (bigSep_fin12 _)) $$ Hrch
  icases Hrch with ⟨#Hr0, #Hr1, #Hr2, #Hr3, #Hr4, #Hr5, #Hr6, #Hr7, #Hr8, #Hr9, #Hr10, #Hr11⟩
  ihave Hk := (two_k 1 fullShare fkb).1 $$ Hk
  icases Hk with ⟨Hk0, Hk1⟩
  ihave Hv := (two_v 1 fullShare fvb).1 $$ Hv
  icases Hv with ⟨Hv0, Hv1⟩
  iapply (step_signal m K 1 0 dev1_1 (by decide) (O₁ 1 + oweB 2) (by decide)) $$ [HO HtB_0 Hk0 Hk1 Hv0 Hv1]
  · isplitr; · iexact Hr
    isplitl [HO]; · iexact HO
    isplitl [HtB_0]; · iexact HtB_0
    rw [barPay_01]
    isplitl [Hk0]; · unfold free; iexists fkb; iexact Hk0
    isplitl [Hk1]; · unfold free; iexists fkb; iexact Hk1
    isplitl [Hv0]; · unfold free; iexists fvb; iexact Hv0
    isplitl [Hv1]; · unfold free; iexists fvb; iexact Hv1
    isplitr; · iexact Hr8
    isplitr; · iexact Hr9
    isplitr; · iexact Hr10
    iexact Hr11
  iintro HO
  iapply (step_signal m K 1 2 dev2_1 (by decide) (O₁ 1) (by decide)) $$ [HO HtB_2]
  · isplitr; · iexact Hr
    isplitl [HO]; · iexact HO
    isplitl [HtB_2]; · iexact HtB_2
    iapply barPay_21
    iempintro
  iintro HO
  iapply (step_barrier m K 1 (O₁ 1) (above_O₁ 1) (by decide)) $$ [HcB HO HpB]
  · isplitr; · iexact Hr
    isplitr; · iexact Hlev
    isplitl [HcB]; · iexact HcB
    isplitl [HO]; · iexact HO
    iexact HpB
  iintro ⟨HO, HpB, Hbar⟩
  ihave Hbar := bar_split_1 $$ Hbar
  icases Hbar with ⟨-, Hb⟩
  ihave Hb := (Entails.of_eq barPay_12) $$ Hb
  icases Hb with ⟨HDk0_2, HDk1_2, #HR2_8, #HR2_9⟩
  ihave HO := (show ow 1 (O₁ 1) ⊢ ow 1 (0 + owe 2 9 + owe 2 8) from BI.Entails.refl _) $$ HO
  rw [k0_part9_eq_skeleton]; unfold k0_part9_skel
  simp only [semSignalWord, semWaitWord, Prog.lift, Prog.bind_op, Prog.bind_ret, Prog.pure_eq_ret, wp_deviceId, dif_neg cond1_1]
  rw [k0_part10_eq_skeleton]; unfold k0_part10_skel
  simp only [semSignalWord, semWaitWord, Prog.lift, Prog.bind_op, Prog.bind_ret, Prog.pure_eq_ret, wp_deviceId, dif_pos cond2_1, dif_neg cond3_1, dif_neg is2_1]
  iapply (wp_load_rect 𝒱₀ ((1 : Dev nD) : Thread nD τ) none Set.univ (m := xM) (r := rx0) (S := Finset.univ) (q := fullShare) (f := fx) (Finset.subset_univ _)) $$ [Hx]
  · iexact Hx
  iintro Hx
  iapply (wp_load_rect 𝒱₀ ((1 : Dev nD) : Thread nD τ) none Set.univ (m := wqM) (r := rwq) (S := Finset.univ) (q := fullShare) (f := fq) (Finset.subset_univ _)) $$ [Hwq]
  · iexact Hwq
  iintro Hwq
  iapply (wp_load_rect 𝒱₀ ((1 : Dev nD) : Thread nD τ) none Set.univ (m := xM) (r := rx1) (S := Finset.univ) (q := fullShare) (f := fx) (Finset.subset_univ _)) $$ [Hx]
  · iexact Hx
  iintro Hx
  iapply (wp_load_rect 𝒱₀ ((1 : Dev nD) : Thread nD τ) none Set.univ (m := wqM) (r := rwq) (S := Finset.univ) (q := fullShare) (f := fq) (Finset.subset_univ _)) $$ [Hwq]
  · iexact Hwq
  iintro Hwq
  iapply (step_wait m K 1 0 8 (0 + owe 2 9 + owe 2 8) (by repeat' first | exact above_zero _ | exact above_tally _ _ (by decide) | apply above_add) rfl rfl (src := ch0 kM) (dst := ch0 kM) rfl) $$ [Hc8 HO Hp8]
  · isplitr; · iexact Hr
    isplitr; · iexact Hlev
    isplitl [Hc8]; · iexact Hc8
    isplitl [HO]; · iexact HO
    iexact Hp8
  iintro ⟨HO, Hp8, Hk0⟩
  ihave Hk0 := (show xPay m 1 8 ⊢ cpt (ch0 kM) 1 fullShare (KK m) from BI.Entails.refl _) $$ Hk0
  ihave Hk0 := (pointsTo_share (PosShare.mem_left_op_right fullShare)).1 $$ Hk0
  icases Hk0 with ⟨Hk0l, Hk0⟩
  iapply (step_send m K 1 2 0 8 (0 + owe 2 9) (q := fullShare.left) (src := ch0 kM) (dst := ch0 kM) (fs := KK m) (BI.Entails.refl _) (fun fd => landed_k0 1 2 fd _) rfl rfl (dev11 1 cond2_1) rfl rfl rfl) $$ [Hk0l HDk0_2 HO Ht0_1 Ht8_2]
  · isplitr; · iexact Hr
    isplitl [Hk0l]; · iexact Hk0l
    isplitl [HDk0_2]; · iexact HDk0_2
    isplitl [HO]; · iexact HO
    isplitl [Ht0_1]; · iexact Ht0_1
    isplitr; · iexact Hr0
    isplitl [Ht8_2]; · iexact Ht8_2
    iexact HR2_8
  iintro ⟨Hc0, HO⟩
  rw [k0_part11_eq_skeleton]; unfold k0_part11_skel
  simp only [semSignalWord, semWaitWord, Prog.lift, Prog.bind_op, Prog.bind_ret, Prog.pure_eq_ret, wp_deviceId]
  iapply (wp_load_rect 𝒱₀ ((1 : Dev nD) : Thread nD τ) none Set.univ (m := kM) (r := rc0) (S := (ch0 kM).view.set) (q := fullShare.right) (f := KK m) (acc_k0)) $$ [Hk0]
  · iexact Hk0
  iintro Hk0
  rw [k0_part12_eq_skeleton]; unfold k0_part12_skel
  simp only [semSignalWord, semWaitWord, Prog.lift, Prog.bind_op, Prog.bind_ret, Prog.pure_eq_ret, wp_deviceId, dif_pos cond5_1, dif_neg cond6_1, dif_neg is2_1]
  iapply (step_wait m K 1 0 9 (0 + owe 2 9) (by repeat' first | exact above_zero _ | exact above_tally _ _ (by decide) | apply above_add) rfl rfl (src := ch1 kM) (dst := ch1 kM) rfl) $$ [Hc9 HO Hp9]
  · isplitr; · iexact Hr
    isplitr; · iexact Hlev
    isplitl [Hc9]; · iexact Hc9
    isplitl [HO]; · iexact HO
    iexact Hp9
  iintro ⟨HO, Hp9, Hk1⟩
  ihave Hk1 := (show xPay m 1 9 ⊢ cpt (ch1 kM) 1 fullShare (KK m) from BI.Entails.refl _) $$ Hk1
  ihave Hk1 := (pointsTo_share (PosShare.mem_left_op_right fullShare)).1 $$ Hk1
  icases Hk1 with ⟨Hk1l, Hk1⟩
  iapply (step_send m K 1 2 1 9 (0) (q := fullShare.left) (src := ch1 kM) (dst := ch1 kM) (fs := KK m) (BI.Entails.refl _) (fun fd => landed_k1 1 2 fd _) rfl rfl (dev13 1 cond5_1) rfl rfl rfl) $$ [Hk1l HDk1_2 HO Ht1_1 Ht9_2]
  · isplitr; · iexact Hr
    isplitl [Hk1l]; · iexact Hk1l
    isplitl [HDk1_2]; · iexact HDk1_2
    isplitl [HO]; · iexact HO
    isplitl [Ht1_1]; · iexact Ht1_1
    isplitr; · iexact Hr1
    isplitl [Ht9_2]; · iexact Ht9_2
    iexact HR2_9
  iintro ⟨Hc1, HO⟩
  iapply (wp_load_rect 𝒱₀ ((1 : Dev nD) : Thread nD τ) none Set.univ (m := kM) (r := rc1) (S := (ch1 kM).view.set) (q := fullShare.right) (f := KK m) (acc_k1)) $$ [Hk1]
  · iexact Hk1
  iintro Hk1
  rw [k0_part13_eq_skeleton]; unfold k0_part13_skel
  simp only [semSignalWord, semWaitWord, Prog.lift, Prog.bind_op, Prog.bind_ret, Prog.pure_eq_ret, wp_deviceId, dif_pos is12_1]
  iapply (step_wait m K 1 0 10 (0) (above_zero _) rfl rfl (src := ch0 vM) (dst := ch0 vM) rfl) $$ [Hc10 HO Hp10]
  · isplitr; · iexact Hr
    isplitr; · iexact Hlev
    isplitl [Hc10]; · iexact Hc10
    isplitl [HO]; · iexact HO
    iexact Hp10
  iintro ⟨HO, Hp10, Hv0⟩
  ihave Hv0 := (show xPay m 1 10 ⊢ cpt (ch0 vM) 1 fullShare (VV m) from BI.Entails.refl _) $$ Hv0
  iapply (wp_load_rect 𝒱₀ ((1 : Dev nD) : Thread nD τ) none Set.univ (m := vM) (r := rc0) (S := (ch0 vM).view.set) (q := fullShare) (f := VV m) (acc_v0)) $$ [Hv0]
  · iexact Hv0
  iintro Hv0
  iapply (wp_load_rect 𝒱₀ ((1 : Dev nD) : Thread nD τ) none Set.univ (m := woM) (r := rwo) (S := Finset.univ) (q := fullShare) (f := fo) (Finset.subset_univ _)) $$ [Hwo]
  · iexact Hwo
  iintro Hwo
  rw [k0_part14_eq_skeleton]; unfold k0_part14_skel
  simp only [semSignalWord, semWaitWord, Prog.lift, Prog.bind_op, Prog.bind_ret, Prog.pure_eq_ret, wp_deviceId, dif_pos is12_1, dif_neg is0_1, dif_pos is13_1]
  iapply (wp_load_rect 𝒱₀ ((1 : Dev nD) : Thread nD τ) none Set.univ (m := oM) (r := rx0) (S := Finset.univ) (q := fullShare) (f := g) (Finset.subset_univ _)) $$ [Ho]
  · iexact Ho
  iintro Ho
  iapply (wp_store 𝒱₀ ((1 : Dev nD) : Thread nD τ) none Set.univ (m := oM) (r := rx0) (S := Finset.univ) (Finset.subset_univ _)) $$ [Ho]
  · iexact Ho
  iintro Ho
  iapply (step_wait m K 1 0 11 (0) (above_zero _) rfl rfl (src := ch1 vM) (dst := ch1 vM) rfl) $$ [Hc11 HO Hp11]
  · isplitr; · iexact Hr
    isplitr; · iexact Hlev
    isplitl [Hc11]; · iexact Hc11
    isplitl [HO]; · iexact HO
    iexact Hp11
  iintro ⟨HO, Hp11, Hv1⟩
  ihave Hv1 := (show xPay m 1 11 ⊢ cpt (ch1 vM) 1 fullShare (VV m) from BI.Entails.refl _) $$ Hv1
  iapply (wp_load_rect 𝒱₀ ((1 : Dev nD) : Thread nD τ) none Set.univ (m := vM) (r := rc1) (S := (ch1 vM).view.set) (q := fullShare) (f := VV m) (acc_v1)) $$ [Hv1]
  · iexact Hv1
  iintro Hv1
  iapply (wp_load_rect 𝒱₀ ((1 : Dev nD) : Thread nD τ) none Set.univ (m := woM) (r := rwo) (S := Finset.univ) (q := fullShare) (f := fo) (Finset.subset_univ _)) $$ [Hwo]
  · iexact Hwo
  iintro Hwo
  iapply (wp_load_rect 𝒱₀ ((1 : Dev nD) : Thread nD τ) none Set.univ (m := oM) (r := rx1) (S := Finset.univ) (q := fullShare) (f := _) (Finset.subset_univ _)) $$ [Ho]
  · iexact Ho
  iintro Ho
  iapply (wp_store 𝒱₀ ((1 : Dev nD) : Thread nD τ) none Set.univ (m := oM) (r := rx1) (S := Finset.univ) (Finset.subset_univ _)) $$ [Ho]
  · iexact Ho
  iintro Ho
  iapply (step_wait m K 1 1 0 (0) (above_zero _) rfl rfl (src := ch0 kM) (dst := ch0 kM) rfl) $$ [Hc0 HO Hp0]
  · isplitr; · iexact Hr
    isplitr; · iexact Hlev
    isplitl [Hc0]; · iexact Hc0
    isplitl [HO]; · iexact HO
    iexact Hp0
  iintro ⟨HO, Hp0, Hk0l⟩
  ihave Hk0l := (show xPay m 1 0 ⊢ cpt (ch0 kM) 1 fullShare.left (KK m) from BI.Entails.refl _) $$ Hk0l
  ihave Hk0 := (pointsTo_share (PosShare.mem_left_op_right fullShare)).2 $$ [Hk0l Hk0]
  · isplitl [Hk0l]; · iexact Hk0l
    iexact Hk0
  iapply (step_wait m K 1 1 1 (0) (above_zero _) rfl rfl (src := ch0 kM) (dst := ch0 kM) rfl) $$ [Hc1 HO Hp1]
  · isplitr; · iexact Hr
    isplitr; · iexact Hlev
    isplitl [Hc1]; · iexact Hc1
    isplitl [HO]; · iexact HO
    iexact Hp1
  iintro ⟨HO, Hp1, Hk1l⟩
  ihave Hk1l := (show xPay m 1 1 ⊢ cpt (ch1 kM) 1 fullShare.left (KK m) from BI.Entails.refl _) $$ Hk1l
  ihave Hk1 := (pointsTo_share (PosShare.mem_left_op_right fullShare)).2 $$ [Hk1l Hk1]
  · isplitl [Hk1l]; · iexact Hk1l
    iexact Hk1
  ihave Hk := (two_k 1 fullShare (KK m)).2 $$ [Hk0 Hk1]
  · isplitl [Hk0]; · iexact Hk0
    iexact Hk1
  ihave Hv := (two_v 1 fullShare (VV m)).2 $$ [Hv0 Hv1]
  · isplitl [Hv0]; · iexact Hv0
    iexact Hv1
  unfold Wp; rw [wp_ret]
  imod (close_bar m K 1) $$ [HpB] with Hs
  · isplitr; · iexact Hr
    iexact HpB
  imod (close_all m K 1 (fun k => if k.val ∈ ([0, 1, 8, 9, 10, 11] : List ℕ) then 1 else 0) (by decide)) $$ [Hp0 Hp1 Hp2 Hp3 Hp4 Hp5 Hp6 Hp7 Hp8 Hp9 Hp10 Hp11] with Hss
  · isplitr; · iexact Hr
    rw [bigSep_fin12]
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    iexact Hp11
  imodintro
  iapply Hend
  unfold bodyPost landing staged
  isplitl [Hs]; · iexact Hs
  isplitl [Hss]; · iexact Hss
  isplitl [HO]; · iexact HO
  isplitl [Hk Hv]
  · isplitl [Hk]; · iexists _; iexact Hk
    iexists _; iexact Hv
  isplitl [Hx Hwq Hsk Hsv Hwo]
  · isplitl [Hx]; · iexact Hx
    isplitl [Hwq]; · iexact Hwq
    isplitl [Hsk]; · iexact Hsk
    isplitl [Hsv]; · iexact Hsv
    iexact Hwo
  iexact Ho

end Cert.Proof

end
-- ==== Proof.Run2.lean ====
/-
  The body's run on device 2.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- The body's run on device 2. -/
theorem run_2 (fx : CX F) (fq : CWq F) (fk : CK F) (fv : CV F) (fo : CWo F) (g : CO F) (Kt : PUnit → sProp 𝕄) :
    bodyPre m K 2 fx fq fk fv fo g ⊢ iprop((bodyPost m 2 fx fq fk fv fo g -∗ Kt ⟨⟩) -∗ Wp 2 (bodyProg (F := F)) Kt) := by
  unfold bodyProg
  rw [cc0__body_eq_skeleton]; unfold cc0__body_skel
  rw [k0_part8_eq_skeleton]; unfold k0_part8_skel
  simp only [semSignalWord, semWaitWord, Prog.lift, Prog.bind_op, Prog.bind_ret, Prog.pure_eq_ret, wp_deviceId, v2_2]
  unfold bodyPre opened landing staged
  iintro ⟨⟨#Hr, HpB, Hpos, Hrch, Htok⟩, #Hlev, Hcred, HO, ⟨⟨%fkb, Hk⟩, ⟨%fvb, Hv⟩⟩, ⟨Hx, Hwq, Hsk, Hsv, Hwo⟩, Ho⟩ Hend
  ihave Hcred := (show creds 2 ⊢ (iprop(crB 2 ∗ crX 2 8 ∗ crX 2 9 ∗ crX 2 10 ∗ crX 2 11) : sProp 𝕄) from BI.Entails.refl _) $$ Hcred
  icases Hcred with ⟨HcB, Hc8, Hc9, Hc10, Hc11⟩
  ihave Htok := (toks_2) $$ Htok
  icases Htok with ⟨HtB_1, HtB_3⟩
  ihave Hpos := (Entails.of_eq (bigSep_fin12 _)) $$ Hpos
  icases Hpos with ⟨Hp0, Hp1, Hp2, Hp3, Hp4, Hp5, Hp6, Hp7, Hp8, Hp9, Hp10, Hp11⟩
  ihave Hrch := (Entails.of_eq (bigSep_fin12 _)) $$ Hrch
  icases Hrch with ⟨#Hr0, #Hr1, #Hr2, #Hr3, #Hr4, #Hr5, #Hr6, #Hr7, #Hr8, #Hr9, #Hr10, #Hr11⟩
  ihave Hk := (two_k 2 fullShare fkb).1 $$ Hk
  icases Hk with ⟨Hk0, Hk1⟩
  ihave Hv := (two_v 2 fullShare fvb).1 $$ Hv
  icases Hv with ⟨Hv0, Hv1⟩
  iapply (step_signal m K 2 1 dev1_2 (by decide) (O₁ 2 + oweB 3) (by decide)) $$ [HO HtB_1 Hk0 Hk1]
  · isplitr; · iexact Hr
    isplitl [HO]; · iexact HO
    isplitl [HtB_1]; · iexact HtB_1
    rw [barPay_12]
    isplitl [Hk0]; · unfold free; iexists fkb; iexact Hk0
    isplitl [Hk1]; · unfold free; iexists fkb; iexact Hk1
    isplitr; · iexact Hr8
    iexact Hr9
  iintro HO
  iapply (step_signal m K 2 3 dev2_2 (by decide) (O₁ 2) (by decide)) $$ [HO HtB_3 Hv0 Hv1]
  · isplitr; · iexact Hr
    isplitl [HO]; · iexact HO
    isplitl [HtB_3]; · iexact HtB_3
    rw [barPay_32]
    isplitl [Hv0]; · unfold free; iexists fvb; iexact Hv0
    isplitl [Hv1]; · unfold free; iexists fvb; iexact Hv1
    isplitr; · iexact Hr10
    iexact Hr11
  iintro HO
  iapply (step_barrier m K 2 (O₁ 2) (above_O₁ 2) (by decide)) $$ [HcB HO HpB]
  · isplitr; · iexact Hr
    isplitr; · iexact Hlev
    isplitl [HcB]; · iexact HcB
    isplitl [HO]; · iexact HO
    iexact HpB
  iintro ⟨HO, HpB, Hbar⟩
  iclear Hbar
  ihave HO := (show ow 2 (O₁ 2) ⊢ ow 2 (0) from BI.Entails.refl _) $$ HO
  rw [k0_part9_eq_skeleton]; unfold k0_part9_skel
  simp only [semSignalWord, semWaitWord, Prog.lift, Prog.bind_op, Prog.bind_ret, Prog.pure_eq_ret, wp_deviceId, dif_neg cond1_2]
  rw [k0_part10_eq_skeleton]; unfold k0_part10_skel
  simp only [semSignalWord, semWaitWord, Prog.lift, Prog.bind_op, Prog.bind_ret, Prog.pure_eq_ret, wp_deviceId, dif_neg cond2_2, dif_neg cond3_2, dif_pos is2_2]
  iapply (wp_load_rect 𝒱₀ ((2 : Dev nD) : Thread nD τ) none Set.univ (m := xM) (r := rx0) (S := Finset.univ) (q := fullShare) (f := fx) (Finset.subset_univ _)) $$ [Hx]
  · iexact Hx
  iintro Hx
  iapply (wp_load_rect 𝒱₀ ((2 : Dev nD) : Thread nD τ) none Set.univ (m := wqM) (r := rwq) (S := Finset.univ) (q := fullShare) (f := fq) (Finset.subset_univ _)) $$ [Hwq]
  · iexact Hwq
  iintro Hwq
  iapply (wp_load_rect 𝒱₀ ((2 : Dev nD) : Thread nD τ) none Set.univ (m := xM) (r := rx1) (S := Finset.univ) (q := fullShare) (f := fx) (Finset.subset_univ _)) $$ [Hx]
  · iexact Hx
  iintro Hx
  iapply (wp_load_rect 𝒱₀ ((2 : Dev nD) : Thread nD τ) none Set.univ (m := wqM) (r := rwq) (S := Finset.univ) (q := fullShare) (f := fq) (Finset.subset_univ _)) $$ [Hwq]
  · iexact Hwq
  iintro Hwq
  iapply (step_wait m K 2 1 8 (0) (above_zero _) rfl rfl (src := ch0 kM) (dst := ch0 kM) rfl) $$ [Hc8 HO Hp8]
  · isplitr; · iexact Hr
    isplitr; · iexact Hlev
    isplitl [Hc8]; · iexact Hc8
    isplitl [HO]; · iexact HO
    iexact Hp8
  iintro ⟨HO, Hp8, Hk0⟩
  ihave Hk0 := (show xPay m 2 8 ⊢ cpt (ch0 kM) 2 fullShare (KK m) from BI.Entails.refl _) $$ Hk0
  rw [k0_part11_eq_skeleton]; unfold k0_part11_skel
  simp only [semSignalWord, semWaitWord, Prog.lift, Prog.bind_op, Prog.bind_ret, Prog.pure_eq_ret, wp_deviceId]
  iapply (wp_load_rect 𝒱₀ ((2 : Dev nD) : Thread nD τ) none Set.univ (m := kM) (r := rc0) (S := (ch0 kM).view.set) (q := fullShare) (f := KK m) (acc_k0)) $$ [Hk0]
  · iexact Hk0
  iintro Hk0
  rw [k0_part12_eq_skeleton]; unfold k0_part12_skel
  simp only [semSignalWord, semWaitWord, Prog.lift, Prog.bind_op, Prog.bind_ret, Prog.pure_eq_ret, wp_deviceId, dif_neg cond5_2, dif_neg cond6_2, dif_pos is2_2]
  iapply (step_wait m K 2 1 9 (0) (above_zero _) rfl rfl (src := ch1 kM) (dst := ch1 kM) rfl) $$ [Hc9 HO Hp9]
  · isplitr; · iexact Hr
    isplitr; · iexact Hlev
    isplitl [Hc9]; · iexact Hc9
    isplitl [HO]; · iexact HO
    iexact Hp9
  iintro ⟨HO, Hp9, Hk1⟩
  ihave Hk1 := (show xPay m 2 9 ⊢ cpt (ch1 kM) 2 fullShare (KK m) from BI.Entails.refl _) $$ Hk1
  iapply (wp_load_rect 𝒱₀ ((2 : Dev nD) : Thread nD τ) none Set.univ (m := kM) (r := rc1) (S := (ch1 kM).view.set) (q := fullShare) (f := KK m) (acc_k1)) $$ [Hk1]
  · iexact Hk1
  iintro Hk1
  rw [k0_part13_eq_skeleton]; unfold k0_part13_skel
  simp only [semSignalWord, semWaitWord, Prog.lift, Prog.bind_op, Prog.bind_ret, Prog.pure_eq_ret, wp_deviceId, dif_pos is12_2]
  iapply (step_wait m K 2 3 10 (0) (above_zero _) rfl rfl (src := ch0 vM) (dst := ch0 vM) rfl) $$ [Hc10 HO Hp10]
  · isplitr; · iexact Hr
    isplitr; · iexact Hlev
    isplitl [Hc10]; · iexact Hc10
    isplitl [HO]; · iexact HO
    iexact Hp10
  iintro ⟨HO, Hp10, Hv0⟩
  ihave Hv0 := (show xPay m 2 10 ⊢ cpt (ch0 vM) 2 fullShare (VV m) from BI.Entails.refl _) $$ Hv0
  iapply (wp_load_rect 𝒱₀ ((2 : Dev nD) : Thread nD τ) none Set.univ (m := vM) (r := rc0) (S := (ch0 vM).view.set) (q := fullShare) (f := VV m) (acc_v0)) $$ [Hv0]
  · iexact Hv0
  iintro Hv0
  iapply (wp_load_rect 𝒱₀ ((2 : Dev nD) : Thread nD τ) none Set.univ (m := woM) (r := rwo) (S := Finset.univ) (q := fullShare) (f := fo) (Finset.subset_univ _)) $$ [Hwo]
  · iexact Hwo
  iintro Hwo
  rw [k0_part14_eq_skeleton]; unfold k0_part14_skel
  simp only [semSignalWord, semWaitWord, Prog.lift, Prog.bind_op, Prog.bind_ret, Prog.pure_eq_ret, wp_deviceId, dif_pos is12_2, dif_neg is0_2, dif_neg is13_2]
  iapply (wp_load_rect 𝒱₀ ((2 : Dev nD) : Thread nD τ) none Set.univ (m := oM) (r := rx0) (S := Finset.univ) (q := fullShare) (f := g) (Finset.subset_univ _)) $$ [Ho]
  · iexact Ho
  iintro Ho
  iapply (wp_store 𝒱₀ ((2 : Dev nD) : Thread nD τ) none Set.univ (m := oM) (r := rx0) (S := Finset.univ) (Finset.subset_univ _)) $$ [Ho]
  · iexact Ho
  iintro Ho
  iapply (step_wait m K 2 3 11 (0) (above_zero _) rfl rfl (src := ch1 vM) (dst := ch1 vM) rfl) $$ [Hc11 HO Hp11]
  · isplitr; · iexact Hr
    isplitr; · iexact Hlev
    isplitl [Hc11]; · iexact Hc11
    isplitl [HO]; · iexact HO
    iexact Hp11
  iintro ⟨HO, Hp11, Hv1⟩
  ihave Hv1 := (show xPay m 2 11 ⊢ cpt (ch1 vM) 2 fullShare (VV m) from BI.Entails.refl _) $$ Hv1
  iapply (wp_load_rect 𝒱₀ ((2 : Dev nD) : Thread nD τ) none Set.univ (m := vM) (r := rc1) (S := (ch1 vM).view.set) (q := fullShare) (f := VV m) (acc_v1)) $$ [Hv1]
  · iexact Hv1
  iintro Hv1
  iapply (wp_load_rect 𝒱₀ ((2 : Dev nD) : Thread nD τ) none Set.univ (m := woM) (r := rwo) (S := Finset.univ) (q := fullShare) (f := fo) (Finset.subset_univ _)) $$ [Hwo]
  · iexact Hwo
  iintro Hwo
  iapply (wp_load_rect 𝒱₀ ((2 : Dev nD) : Thread nD τ) none Set.univ (m := oM) (r := rx1) (S := Finset.univ) (q := fullShare) (f := _) (Finset.subset_univ _)) $$ [Ho]
  · iexact Ho
  iintro Ho
  iapply (wp_store 𝒱₀ ((2 : Dev nD) : Thread nD τ) none Set.univ (m := oM) (r := rx1) (S := Finset.univ) (Finset.subset_univ _)) $$ [Ho]
  · iexact Ho
  iintro Ho
  ihave Hk := (two_k 2 fullShare (KK m)).2 $$ [Hk0 Hk1]
  · isplitl [Hk0]; · iexact Hk0
    iexact Hk1
  ihave Hv := (two_v 2 fullShare (VV m)).2 $$ [Hv0 Hv1]
  · isplitl [Hv0]; · iexact Hv0
    iexact Hv1
  rw [wp_ret]
  imod (close_bar m K 2) $$ [HpB] with Hs
  · isplitr; · iexact Hr
    iexact HpB
  imod (close_all m K 2 (fun k => if k.val ∈ ([8, 9, 10, 11] : List ℕ) then 1 else 0) (by decide)) $$ [Hp0 Hp1 Hp2 Hp3 Hp4 Hp5 Hp6 Hp7 Hp8 Hp9 Hp10 Hp11] with Hss
  · isplitr; · iexact Hr
    rw [bigSep_fin12]
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    iexact Hp11
  imodintro
  iapply Hend
  unfold bodyPost landing staged
  isplitl [Hs]; · iexact Hs
  isplitl [Hss]; · iexact Hss
  isplitl [HO]; · iexact HO
  isplitl [Hk Hv]
  · isplitl [Hk]; · iexists _; iexact Hk
    iexists _; iexact Hv
  isplitl [Hx Hwq Hsk Hsv Hwo]
  · isplitl [Hx]; · iexact Hx
    isplitl [Hwq]; · iexact Hwq
    isplitl [Hsk]; · iexact Hsk
    isplitl [Hsv]; · iexact Hsv
    iexact Hwo
  iexact Ho

end Cert.Proof

end
-- ==== Proof.Run3.lean ====
/-
  The body's run on device 3.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- The body's run on device 3. -/
theorem run_3 (fx : CX F) (fq : CWq F) (fk : CK F) (fv : CV F) (fo : CWo F) (g : CO F) (Kt : PUnit → sProp 𝕄) :
    bodyPre m K 3 fx fq fk fv fo g ⊢ iprop((bodyPost m 3 fx fq fk fv fo g -∗ Kt ⟨⟩) -∗ Wp 3 (bodyProg (F := F)) Kt) := by
  unfold bodyProg
  rw [cc0__body_eq_skeleton]; unfold cc0__body_skel
  rw [k0_part8_eq_skeleton]; unfold k0_part8_skel
  simp only [semSignalWord, semWaitWord, Prog.lift, Prog.bind_op, Prog.bind_ret, Prog.pure_eq_ret, wp_deviceId, v2_3]
  unfold bodyPre opened landing staged
  iintro ⟨⟨#Hr, HpB, Hpos, Hrch, Htok⟩, #Hlev, Hcred, HO, ⟨⟨%fkb, Hk⟩, ⟨%fvb, Hv⟩⟩, ⟨Hx, Hwq, Hsk, Hsv, Hwo⟩, Ho⟩ Hend
  ihave Hcred := (show creds 3 ⊢ (iprop(crB 3 ∗ crX 3 8 ∗ crX 3 9 ∗ crX 3 10 ∗ crX 3 11) : sProp 𝕄) from BI.Entails.refl _) $$ Hcred
  icases Hcred with ⟨HcB, Hc8, Hc9, Hc10, Hc11⟩
  ihave Htok := (toks_3) $$ Htok
  icases Htok with ⟨HtB_2, HtB_0, Ht0_3, Ht1_3, Ht10_2, Ht11_2⟩
  ihave Hpos := (Entails.of_eq (bigSep_fin12 _)) $$ Hpos
  icases Hpos with ⟨Hp0, Hp1, Hp2, Hp3, Hp4, Hp5, Hp6, Hp7, Hp8, Hp9, Hp10, Hp11⟩
  ihave Hrch := (Entails.of_eq (bigSep_fin12 _)) $$ Hrch
  icases Hrch with ⟨#Hr0, #Hr1, #Hr2, #Hr3, #Hr4, #Hr5, #Hr6, #Hr7, #Hr8, #Hr9, #Hr10, #Hr11⟩
  ihave Hk := (two_k 3 fullShare fkb).1 $$ Hk
  icases Hk with ⟨Hk0, Hk1⟩
  ihave Hv := (two_v 3 fullShare fvb).1 $$ Hv
  icases Hv with ⟨Hv0, Hv1⟩
  iapply (step_signal m K 3 2 dev1_3 (by decide) (O₁ 3 + oweB 0) (by decide)) $$ [HO HtB_2]
  · isplitr; · iexact Hr
    isplitl [HO]; · iexact HO
    isplitl [HtB_2]; · iexact HtB_2
    iapply barPay_23
    iempintro
  iintro HO
  iapply (step_signal m K 3 0 dev2_3 (by decide) (O₁ 3) (by decide)) $$ [HO HtB_0 Hk0 Hk1 Hv0 Hv1]
  · isplitr; · iexact Hr
    isplitl [HO]; · iexact HO
    isplitl [HtB_0]; · iexact HtB_0
    rw [barPay_03]
    isplitl [Hk0]; · unfold free; iexists fkb; iexact Hk0
    isplitl [Hk1]; · unfold free; iexists fkb; iexact Hk1
    isplitl [Hv0]; · unfold free; iexists fvb; iexact Hv0
    isplitl [Hv1]; · unfold free; iexists fvb; iexact Hv1
    isplitr; · iexact Hr8
    isplitr; · iexact Hr9
    isplitr; · iexact Hr10
    iexact Hr11
  iintro HO
  iapply (step_barrier m K 3 (O₁ 3) (above_O₁ 3) (by decide)) $$ [HcB HO HpB]
  · isplitr; · iexact Hr
    isplitr; · iexact Hlev
    isplitl [HcB]; · iexact HcB
    isplitl [HO]; · iexact HO
    iexact HpB
  iintro ⟨HO, HpB, Hbar⟩
  ihave Hbar := bar_split_3 $$ Hbar
  icases Hbar with ⟨-, Hb⟩
  ihave Hb := (Entails.of_eq barPay_32) $$ Hb
  icases Hb with ⟨HDv0_2, HDv1_2, #HR2_10, #HR2_11⟩
  ihave HO := (show ow 3 (O₁ 3) ⊢ ow 3 (0 + owe 2 11 + owe 2 10) from BI.Entails.refl _) $$ HO
  rw [k0_part9_eq_skeleton]; unfold k0_part9_skel
  simp only [semSignalWord, semWaitWord, Prog.lift, Prog.bind_op, Prog.bind_ret, Prog.pure_eq_ret, wp_deviceId, dif_neg cond1_3]
  rw [k0_part10_eq_skeleton]; unfold k0_part10_skel
  simp only [semSignalWord, semWaitWord, Prog.lift, Prog.bind_op, Prog.bind_ret, Prog.pure_eq_ret, wp_deviceId, dif_neg cond2_3, dif_pos cond3_3, dif_neg is2_3, k0_part4_eq_skeleton, k0_part4_skel]
  iapply (wp_load_rect 𝒱₀ ((3 : Dev nD) : Thread nD τ) none Set.univ (m := xM) (r := rx0) (S := Finset.univ) (q := fullShare) (f := fx) (Finset.subset_univ _)) $$ [Hx]
  · iexact Hx
  iintro Hx
  iapply (wp_load_rect 𝒱₀ ((3 : Dev nD) : Thread nD τ) none Set.univ (m := wqM) (r := rwq) (S := Finset.univ) (q := fullShare) (f := fq) (Finset.subset_univ _)) $$ [Hwq]
  · iexact Hwq
  iintro Hwq
  iapply (wp_load_rect 𝒱₀ ((3 : Dev nD) : Thread nD τ) none Set.univ (m := xM) (r := rx1) (S := Finset.univ) (q := fullShare) (f := fx) (Finset.subset_univ _)) $$ [Hx]
  · iexact Hx
  iintro Hx
  iapply (wp_load_rect 𝒱₀ ((3 : Dev nD) : Thread nD τ) none Set.univ (m := wqM) (r := rwq) (S := Finset.univ) (q := fullShare) (f := fq) (Finset.subset_univ _)) $$ [Hwq]
  · iexact Hwq
  iintro Hwq
  iapply (step_wait m K 3 0 10 (0 + owe 2 11 + owe 2 10) (by repeat' first | exact above_zero _ | exact above_tally _ _ (by decide) | apply above_add) rfl rfl (src := ch0 vM) (dst := ch0 vM) rfl) $$ [Hc10 HO Hp10]
  · isplitr; · iexact Hr
    isplitr; · iexact Hlev
    isplitl [Hc10]; · iexact Hc10
    isplitl [HO]; · iexact HO
    iexact Hp10
  iintro ⟨HO, Hp10, Hv0⟩
  ihave Hv0 := (show xPay m 3 10 ⊢ cpt (ch0 vM) 3 fullShare (VV m) from BI.Entails.refl _) $$ Hv0
  ihave Hv0 := (pointsTo_share (PosShare.mem_left_op_right fullShare)).1 $$ Hv0
  icases Hv0 with ⟨Hv0l, Hv0⟩
  iapply (step_send m K 3 2 0 10 (0 + owe 2 11) (q := fullShare.left) (src := ch0 vM) (dst := ch0 vM) (fs := VV m) (BI.Entails.refl _) (fun fd => landed_v0 3 2 fd _) rfl rfl (dev12 3 cond3_3) rfl rfl rfl) $$ [Hv0l HDv0_2 HO Ht0_3 Ht10_2]
  · isplitr; · iexact Hr
    isplitl [Hv0l]; · iexact Hv0l
    isplitl [HDv0_2]; · iexact HDv0_2
    isplitl [HO]; · iexact HO
    isplitl [Ht0_3]; · iexact Ht0_3
    isplitr; · iexact Hr0
    isplitl [Ht10_2]; · iexact Ht10_2
    iexact HR2_10
  iintro ⟨Hc0, HO⟩
  iapply (step_wait m K 3 0 8 (0 + owe 2 11) (by repeat' first | exact above_zero _ | exact above_tally _ _ (by decide) | apply above_add) rfl rfl (src := ch0 kM) (dst := ch0 kM) rfl) $$ [Hc8 HO Hp8]
  · isplitr; · iexact Hr
    isplitr; · iexact Hlev
    isplitl [Hc8]; · iexact Hc8
    isplitl [HO]; · iexact HO
    iexact Hp8
  iintro ⟨HO, Hp8, Hk0⟩
  ihave Hk0 := (show xPay m 3 8 ⊢ cpt (ch0 kM) 3 fullShare (KK m) from BI.Entails.refl _) $$ Hk0
  rw [k0_part11_eq_skeleton]; unfold k0_part11_skel
  simp only [semSignalWord, semWaitWord, Prog.lift, Prog.bind_op, Prog.bind_ret, Prog.pure_eq_ret, wp_deviceId]
  iapply (wp_load_rect 𝒱₀ ((3 : Dev nD) : Thread nD τ) none Set.univ (m := kM) (r := rc0) (S := (ch0 kM).view.set) (q := fullShare) (f := KK m) (acc_k0)) $$ [Hk0]
  · iexact Hk0
  iintro Hk0
  rw [k0_part12_eq_skeleton]; unfold k0_part12_skel
  simp only [semSignalWord, semWaitWord, Prog.lift, Prog.bind_op, Prog.bind_ret, Prog.pure_eq_ret, wp_deviceId, dif_neg cond5_3, dif_pos cond6_3, dif_neg is2_3, k0_part5_eq_skeleton, k0_part5_skel]
  iapply (step_wait m K 3 0 11 (0 + owe 2 11) (by repeat' first | exact above_zero _ | exact above_tally _ _ (by decide) | apply above_add) rfl rfl (src := ch1 vM) (dst := ch1 vM) rfl) $$ [Hc11 HO Hp11]
  · isplitr; · iexact Hr
    isplitr; · iexact Hlev
    isplitl [Hc11]; · iexact Hc11
    isplitl [HO]; · iexact HO
    iexact Hp11
  iintro ⟨HO, Hp11, Hv1⟩
  ihave Hv1 := (show xPay m 3 11 ⊢ cpt (ch1 vM) 3 fullShare (VV m) from BI.Entails.refl _) $$ Hv1
  ihave Hv1 := (pointsTo_share (PosShare.mem_left_op_right fullShare)).1 $$ Hv1
  icases Hv1 with ⟨Hv1l, Hv1⟩
  iapply (step_send m K 3 2 1 11 (0) (q := fullShare.left) (src := ch1 vM) (dst := ch1 vM) (fs := VV m) (BI.Entails.refl _) (fun fd => landed_v1 3 2 fd _) rfl rfl (dev14 3 cond6_3) rfl rfl rfl) $$ [Hv1l HDv1_2 HO Ht1_3 Ht11_2]
  · isplitr; · iexact Hr
    isplitl [Hv1l]; · iexact Hv1l
    isplitl [HDv1_2]; · iexact HDv1_2
    isplitl [HO]; · iexact HO
    isplitl [Ht1_3]; · iexact Ht1_3
    isplitr; · iexact Hr1
    isplitl [Ht11_2]; · iexact Ht11_2
    iexact HR2_11
  iintro ⟨Hc1, HO⟩
  iapply (step_wait m K 3 0 9 (0) (above_zero _) rfl rfl (src := ch1 kM) (dst := ch1 kM) rfl) $$ [Hc9 HO Hp9]
  · isplitr; · iexact Hr
    isplitr; · iexact Hlev
    isplitl [Hc9]; · iexact Hc9
    isplitl [HO]; · iexact HO
    iexact Hp9
  iintro ⟨HO, Hp9, Hk1⟩
  ihave Hk1 := (show xPay m 3 9 ⊢ cpt (ch1 kM) 3 fullShare (KK m) from BI.Entails.refl _) $$ Hk1
  iapply (wp_load_rect 𝒱₀ ((3 : Dev nD) : Thread nD τ) none Set.univ (m := kM) (r := rc1) (S := (ch1 kM).view.set) (q := fullShare) (f := KK m) (acc_k1)) $$ [Hk1]
  · iexact Hk1
  iintro Hk1
  rw [k0_part13_eq_skeleton]; unfold k0_part13_skel
  simp only [semSignalWord, semWaitWord, Prog.lift, Prog.bind_op, Prog.bind_ret, Prog.pure_eq_ret, wp_deviceId, dif_neg is12_3]
  iapply (wp_load_rect 𝒱₀ ((3 : Dev nD) : Thread nD τ) none Set.univ (m := vM) (r := rc0) (S := (ch0 vM).view.set) (q := fullShare.right) (f := VV m) (acc_v0)) $$ [Hv0]
  · iexact Hv0
  iintro Hv0
  iapply (wp_load_rect 𝒱₀ ((3 : Dev nD) : Thread nD τ) none Set.univ (m := woM) (r := rwo) (S := Finset.univ) (q := fullShare) (f := fo) (Finset.subset_univ _)) $$ [Hwo]
  · iexact Hwo
  iintro Hwo
  rw [k0_part14_eq_skeleton]; unfold k0_part14_skel
  simp only [semSignalWord, semWaitWord, Prog.lift, Prog.bind_op, Prog.bind_ret, Prog.pure_eq_ret, wp_deviceId, dif_neg is12_3, dif_neg is0_3, dif_pos is13_3]
  iapply (wp_load_rect 𝒱₀ ((3 : Dev nD) : Thread nD τ) none Set.univ (m := oM) (r := rx0) (S := Finset.univ) (q := fullShare) (f := g) (Finset.subset_univ _)) $$ [Ho]
  · iexact Ho
  iintro Ho
  iapply (wp_store 𝒱₀ ((3 : Dev nD) : Thread nD τ) none Set.univ (m := oM) (r := rx0) (S := Finset.univ) (Finset.subset_univ _)) $$ [Ho]
  · iexact Ho
  iintro Ho
  iapply (wp_load_rect 𝒱₀ ((3 : Dev nD) : Thread nD τ) none Set.univ (m := vM) (r := rc1) (S := (ch1 vM).view.set) (q := fullShare.right) (f := VV m) (acc_v1)) $$ [Hv1]
  · iexact Hv1
  iintro Hv1
  iapply (wp_load_rect 𝒱₀ ((3 : Dev nD) : Thread nD τ) none Set.univ (m := woM) (r := rwo) (S := Finset.univ) (q := fullShare) (f := fo) (Finset.subset_univ _)) $$ [Hwo]
  · iexact Hwo
  iintro Hwo
  iapply (wp_load_rect 𝒱₀ ((3 : Dev nD) : Thread nD τ) none Set.univ (m := oM) (r := rx1) (S := Finset.univ) (q := fullShare) (f := _) (Finset.subset_univ _)) $$ [Ho]
  · iexact Ho
  iintro Ho
  iapply (wp_store 𝒱₀ ((3 : Dev nD) : Thread nD τ) none Set.univ (m := oM) (r := rx1) (S := Finset.univ) (Finset.subset_univ _)) $$ [Ho]
  · iexact Ho
  iintro Ho
  iapply (step_wait m K 3 3 0 (0) (above_zero _) rfl rfl (src := ch0 kM) (dst := ch0 kM) rfl) $$ [Hc0 HO Hp0]
  · isplitr; · iexact Hr
    isplitr; · iexact Hlev
    isplitl [Hc0]; · iexact Hc0
    isplitl [HO]; · iexact HO
    iexact Hp0
  iintro ⟨HO, Hp0, Hv0l⟩
  ihave Hv0l := (show xPay m 3 0 ⊢ cpt (ch0 vM) 3 fullShare.left (VV m) from BI.Entails.refl _) $$ Hv0l
  ihave Hv0 := (pointsTo_share (PosShare.mem_left_op_right fullShare)).2 $$ [Hv0l Hv0]
  · isplitl [Hv0l]; · iexact Hv0l
    iexact Hv0
  iapply (step_wait m K 3 3 1 (0) (above_zero _) rfl rfl (src := ch0 kM) (dst := ch0 kM) rfl) $$ [Hc1 HO Hp1]
  · isplitr; · iexact Hr
    isplitr; · iexact Hlev
    isplitl [Hc1]; · iexact Hc1
    isplitl [HO]; · iexact HO
    iexact Hp1
  iintro ⟨HO, Hp1, Hv1l⟩
  ihave Hv1l := (show xPay m 3 1 ⊢ cpt (ch1 vM) 3 fullShare.left (VV m) from BI.Entails.refl _) $$ Hv1l
  ihave Hv1 := (pointsTo_share (PosShare.mem_left_op_right fullShare)).2 $$ [Hv1l Hv1]
  · isplitl [Hv1l]; · iexact Hv1l
    iexact Hv1
  ihave Hk := (two_k 3 fullShare (KK m)).2 $$ [Hk0 Hk1]
  · isplitl [Hk0]; · iexact Hk0
    iexact Hk1
  ihave Hv := (two_v 3 fullShare (VV m)).2 $$ [Hv0 Hv1]
  · isplitl [Hv0]; · iexact Hv0
    iexact Hv1
  unfold Wp; rw [wp_ret]
  imod (close_bar m K 3) $$ [HpB] with Hs
  · isplitr; · iexact Hr
    iexact HpB
  imod (close_all m K 3 (fun k => if k.val ∈ ([0, 1, 8, 9, 10, 11] : List ℕ) then 1 else 0) (by decide)) $$ [Hp0 Hp1 Hp2 Hp3 Hp4 Hp5 Hp6 Hp7 Hp8 Hp9 Hp10 Hp11] with Hss
  · isplitr; · iexact Hr
    rw [bigSep_fin12]
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    iexact Hp11
  imodintro
  iapply Hend
  unfold bodyPost landing staged
  isplitl [Hs]; · iexact Hs
  isplitl [Hss]; · iexact Hss
  isplitl [HO]; · iexact HO
  isplitl [Hk Hv]
  · isplitl [Hk]; · iexists _; iexact Hk
    iexists _; iexact Hv
  isplitl [Hx Hwq Hsk Hsv Hwo]
  · isplitl [Hx]; · iexact Hx
    isplitl [Hwq]; · iexact Hwq
    isplitl [Hsk]; · iexact Hsk
    isplitl [Hsv]; · iexact Hsv
    iexact Hwo
  iexact Ho

end Cert.Proof

end
-- ==== Proof.Region.lean ====
/-
  The kernel's region: its windows' contents, its invariant before and after its one point, and the body's obligation
  from the four runs.
-/
module

public import proofs.«01_k».proof.Proof.Run0
public import proofs.«01_k».proof.Proof.Run1
public import proofs.«01_k».proof.Proof.Run2
public import proofs.«01_k».proof.Proof.Run3
public import Idealize.ShloMosaic.Lib.Pipeline.ValueKit.Geometry

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : GSem nD τ sig → ℕ)

/-! ## The result buffer -/

section Out

variable (fx : CX F) (fq : CWq F) (fk : CK F) (fv : CV F) (fo : CWo F) (g : CO F)

theorem outF_1 (j : S1x256x512.Idx) : outF fx fq fk fv fo g ((oM.access rx1).emb j) = outc1 fx fq fk fv fo j :=
  View.write_emb_of_mem _ _ (Finset.mem_univ j)
theorem emb_ne (j j' : S1x256x512.Idx) : (oM.access rx1).emb j' ≠ (oM.access rx0).emb j := fun h => by
  have h0 : 1 + 1 * (j' 0).val = 0 + 1 * (j 0).val := congrArg (fun i : S2x256x512.Idx => (i 0).val) h
  have h1 : (j 0).val < 1 := (j 0).isLt
  omega
theorem outF_0 (j : S1x256x512.Idx) : outF fx fq fk fv fo g ((oM.access rx0).emb j) = outc0 fx fq fk fv fo j :=
  (View.write_of_not_mem _ _ _ (fun h => by
    rw [View.setOn_univ] at h
    obtain ⟨j', -, h⟩ := Finset.mem_map.mp h
    exact emb_ne j j' h)).trans (View.write_emb_of_mem _ _ (Finset.mem_univ j))

theorem two_chunks (i : S2x256x512.Idx) : (∃ j : S1x256x512.Idx, (oM.access rx0).emb j = i) ∨ ∃ j : S1x256x512.Idx, (oM.access rx1).emb j = i := by
  have h0 : (i 0).val < 2 := (i 0).isLt
  rcases Nat.lt_or_ge (i 0).val 1 with h | h
  · left
    refine ⟨fun | 0 => ⟨0, Nat.one_pos⟩ | 1 => i 1 | 2 => i 2, funext fun a => Fin.ext ?_⟩
    fin_cases a
    · show 0 + 1 * 0 = (i 0).val; omega
    · show 0 + 1 * (i 1).val = (i 1).val; omega
    · show 0 + 1 * (i 2).val = (i 2).val; omega
  · right
    refine ⟨fun | 0 => ⟨0, Nat.one_pos⟩ | 1 => i 1 | 2 => i 2, funext fun a => Fin.ext ?_⟩
    fin_cases a
    · show 1 + 1 * 0 = (i 0).val; omega
    · show 0 + 1 * (i 1).val = (i 1).val; omega
    · show 0 + 1 * (i 2).val = (i 2).val; omega

/-- The body writes the whole of the result buffer. -/
theorem outF_whole (g' : CO F) : outF fx fq fk fv fo g = outF fx fq fk fv fo g' := funext fun i => by
  rcases two_chunks i with ⟨j, rfl⟩ | ⟨j, rfl⟩
  · rw [outF_0, outF_0]
  · rw [outF_1, outF_1]

end Out

/-! ## The windows -/

/-- Every window's block is its whole array. -/
theorem iblk_0 (c : Dev nD) (t : Fin cfg0.N) : iblk m c 0 t = (V m c main_arg0 : CX F) := by
  funext x; unfold iblk; exact congrArg (V m c main_arg0) (funext fun a => Fin.ext (by fin_cases a <;> blk_simp <;> exact (congrArg (· + _) (Nat.zero_mul _)).trans (Nat.zero_add _)))
theorem iblk_1 (c : Dev nD) (t : Fin cfg0.N) : iblk m c 1 t = (V m c main_arg1 : CWq F) := by
  funext x; unfold iblk; exact congrArg (V m c main_arg1) (funext fun a => Fin.ext (by fin_cases a <;> blk_simp <;> exact (congrArg (· + _) (Nat.zero_mul _)).trans (Nat.zero_add _)))
theorem iblk_2 (c : Dev nD) (t : Fin cfg0.N) : iblk m c 2 t = (V m c main_v1 : CK F) := by
  funext x; unfold iblk; exact congrArg (V m c main_v1) (funext fun a => Fin.ext (by fin_cases a <;> blk_simp <;> exact (congrArg (· + _) (Nat.zero_mul _)).trans (Nat.zero_add _)))
theorem iblk_3 (c : Dev nD) (t : Fin cfg0.N) : iblk m c 3 t = (V m c main_v2 : CV F) := by
  funext x; unfold iblk; exact congrArg (V m c main_v2) (funext fun a => Fin.ext (by fin_cases a <;> blk_simp <;> exact (congrArg (· + _) (Nat.zero_mul _)).trans (Nat.zero_add _)))
theorem iblk_4 (c : Dev nD) (t : Fin cfg0.N) : iblk m c 4 t = (V m c main_arg4 : CWo F) := by
  funext x; unfold iblk; exact congrArg (V m c main_arg4) (funext fun a => Fin.ext (by fin_cases a <;> blk_simp <;> exact (congrArg (· + _) (Nat.zero_mul _)).trans (Nat.zero_add _)))

/-- What device `c`'s result buffer ends with. -/
def outV (c : Dev nD) : CO F := outF (V m c main_arg0) (V m c main_arg1) (KK m) (VV m) (V m c main_arg4) (V m c main_v3)

/-! ## The region's data -/

/-- The invariant before the region's point. -/
def Φin (c : Dev nD) : sProp 𝕄 := iprop((∃ K, opened m K c) ∗ levAts L lv ∗ creds c ∗ landing c ∗ ∃ r, prngReg c r)
/-- The invariant after it. -/
def Φout (c : Dev nD) : sProp 𝕄 :=
  iprop(semVal (barCell c) 0 ∗ bigSep Finset.univ (fun k => semVal (xCell c k) 0) ∗ landing c ∗ ∃ r, prngReg c r)

def dat (c : Dev nD) : Dat τ (Elt F) Unit ℕ UU ℕ cfg0 c where
  A w := V m c (Pipeline.arrRef spec0 w)
  after w t := match w with
    | ⟨5, _⟩ => outV m c
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨_ + 6, h⟩ => absurd h (Nat.not_lt.2 (Nat.le_add_left _ _))
  Φ t := if t.val = 0 then Φin m c else Φout c
  q _ := fullShare
  owed t := if t.val = 0 then O₀ c else 0

abbrev adm : (p : Fin 1) → (pcfgs (F := F) p).Adm := fun p => (cfgs p).toPCfg_adm
abbrev pdats : (p : Fin 1) → (c : Dev nD) → Dat τ (Elt F) Unit ℕ UU ℕ (Pipeline.pin (pcfgs (F := F)) adm p) c := fun _ c => dat m c

theorem before_0 (c : Dev nD) (t : Fin cfg0.N) (d) : (dat m c).before 0 t d = (V m c main_arg0 : CX F) :=
  (((dat m c).before_in_eq_fetched 0 rfl (fun _ => rfl) (fun _ _ _ => rfl) (fun _ => rfl) t d).trans rfl).trans (iblk_0 m c t)
theorem before_1 (c : Dev nD) (t : Fin cfg0.N) (d) : (dat m c).before 1 t d = (V m c main_arg1 : CWq F) :=
  (((dat m c).before_in_eq_fetched 1 rfl (fun _ => rfl) (fun _ _ _ => rfl) (fun _ => rfl) t d).trans rfl).trans (iblk_1 m c t)
theorem before_2 (c : Dev nD) (t : Fin cfg0.N) (d) : (dat m c).before 2 t d = (V m c main_v1 : CK F) :=
  (((dat m c).before_in_eq_fetched 2 rfl (fun _ => rfl) (fun _ _ _ => rfl) (fun _ => rfl) t d).trans rfl).trans (iblk_2 m c t)
theorem before_3 (c : Dev nD) (t : Fin cfg0.N) (d) : (dat m c).before 3 t d = (V m c main_v2 : CV F) :=
  (((dat m c).before_in_eq_fetched 3 rfl (fun _ => rfl) (fun _ _ _ => rfl) (fun _ => rfl) t d).trans rfl).trans (iblk_3 m c t)
theorem before_4 (c : Dev nD) (t : Fin cfg0.N) (d) : (dat m c).before 4 t d = (V m c main_arg4 : CWo F) :=
  (((dat m c).before_in_eq_fetched 4 rfl (fun _ => rfl) (fun _ _ _ => rfl) (fun _ => rfl) t d).trans rfl).trans (iblk_4 m c t)

theorem owed_zero (c : Dev nD) (t : Fin (cfg0.N + 1)) (h : t.val = 0) : (dat m c).owed t = O₀ c := by
  show (if t.val = 0 then O₀ c else 0) = O₀ c; exact if_pos h
theorem owed_pos (c : Dev nD) (t : Fin (cfg0.N + 1)) (h : t.val ≠ 0) : (dat m c).owed t = 0 := by
  show (if t.val = 0 then O₀ c else 0) = 0; exact if_neg h
theorem Φ_zero (c : Dev nD) (t : Fin (cfg0.N + 1)) (h : t.val = 0) : (dat m c).Φ t = Φin m c := by
  show (if t.val = 0 then Φin m c else Φout c) = Φin m c; exact if_pos h
theorem Φ_pos (c : Dev nD) (t : Fin (cfg0.N + 1)) (h : t.val ≠ 0) : (dat m c).Φ t = Φout c := by
  show (if t.val = 0 then Φin m c else Φout c) = Φout c; exact if_neg h
theorem last_ne : (Fin.last cfg0.N).val ≠ 0 := by rw [Fin.val_last, show cfg0.N = 1 from N_0]; exact Nat.one_ne_zero

theorem owesAt_ow (c : Dev nD) (t : Fin (cfg0.N + 1)) (O : CellTallies nD τ sig Unit) (h : (dat m c).owed t = O) :
    ((dat m c).owesAt () t : sProp 𝕄) ⊢ ow c O := by
  subst h
  unfold Dat.owesAt Pipeline.owesWithin ow
  iintro ⟨%W, -, HO⟩; iexists W; iexact HO
theorem ow_owesAt (c : Dev nD) (t : Fin (cfg0.N + 1)) (O : CellTallies nD τ sig Unit) (h : (dat m c).owed t = O) :
    (ow c O : sProp 𝕄) ⊢ (dat m c).owesAt () t := by
  subst h
  unfold Dat.owesAt Pipeline.owesWithin Dat.bound ow
  iintro ⟨%W, HO⟩; iexists W
  isplitr; · ipureintro; exact fun _ _ => Or.inl trivial
  iexact HO

/-- The four runs as one, for every device. -/
theorem run_any (c : Dev nD) (g : CO F) (Kt : PUnit → sProp 𝕄) :
    bodyPre m K c (V m c main_arg0) (V m c main_arg1) (V m c main_v1) (V m c main_v2) (V m c main_arg4) g
      ⊢ iprop((bodyPost m c (V m c main_arg0) (V m c main_arg1) (V m c main_v1) (V m c main_v2) (V m c main_arg4) g -∗ Kt ⟨⟩)
        -∗ Wp c (bodyProg (F := F)) Kt) := by
  fin_cases c
  · exact run_0 m K _ _ _ _ _
  · exact run_1 m K _ _ _ _ _ _ _
  · exact run_2 m K _ _ _ _ _ _ _
  · exact run_3 m K _ _ _ _ _ _ _

/-- The body's obligation at the region's one point. -/
theorem body (c : Dev nD) : BodyObligation (dat m c) (defs₀ (F := F)) 𝒱₀ () Set.univ := fun t => by
  obtain rfl := fin_N0 t
  rw [bigSep_W0, bigSep_W0]
  simp only [owns_whole_eq]
  rw [Φ_zero m c t0_0.castSucc rfl, Φ_pos m c t0_0.succ (Nat.succ_ne_zero _)]
  show _ ⊢ Wp c (bodyProg (F := F)) _
  iintro ⟨HΦ, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  obtain rfl := h0.trans (before_0 m c t0_0 d0)
  obtain rfl := h1.trans (before_1 m c t0_0 d1)
  obtain rfl := h2.trans (before_2 m c t0_0 d2)
  obtain rfl := h3.trans (before_3 m c t0_0 d3)
  obtain rfl := h4.trans (before_4 m c t0_0 d4)
  ihave HO := (owesAt_ow m c t0_0.castSucc (O₀ c) (owed_zero m c _ rfl)) $$ HO
  unfold Φin
  icases HΦ with ⟨⟨%K, Hg⟩, Hlev, Hcr, Hland, Hreg⟩
  iapply (run_any m K c f5 _) $$ [Hg Hlev Hcr HO Hland H0 H1 H2 H3 H4 H5]
  · unfold bodyPre staged
    isplitl [Hg]; · iexact Hg
    isplitl [Hlev]; · iexact Hlev
    isplitl [Hcr]; · iexact Hcr
    isplitl [HO]; · iexact HO
    isplitl [Hland]; · iexact Hland
    isplitr [H5]
    · isplitl [H0]; · iexact H0
      isplitl [H1]; · iexact H1
      isplitl [H2]; · iexact H2
      isplitl [H3]; · iexact H3
      iexact H4
    iexact H5
  unfold bodyPost staged Φout
  iintro ⟨Hb, Hx, HO, Hland, ⟨H0, H1, H2, H3, H4⟩, H5⟩
  isplitl [Hb Hx Hland Hreg]
  · isplitl [Hb]; · iexact Hb
    isplitl [Hx]; · iexact Hx
    isplitl [Hland]; · iexact Hland
    iexact Hreg
  isplitl [HO]
  · iapply (ow_owesAt m c t0_0.succ 0 (owed_pos m c _ (Nat.succ_ne_zero _))); iexact HO
  isplitl [H0]; · iexists _; isplitr [H0]; (· ipureintro; exact (iblk_0 m c t0_0).symm); iexact H0
  isplitl [H1]; · iexists _; isplitr [H1]; (· ipureintro; exact (iblk_1 m c t0_0).symm); iexact H1
  isplitl [H2]; · iexists _; isplitr [H2]; (· ipureintro; exact (iblk_2 m c t0_0).symm); iexact H2
  isplitl [H3]; · iexists _; isplitr [H3]; (· ipureintro; exact (iblk_3 m c t0_0).symm); iexact H3
  isplitl [H4]; · iexists _; isplitr [H4]; (· ipureintro; exact (iblk_4 m c t0_0).symm); iexact H4
  iexists _; isplitr [H5]; (· ipureintro; exact outF_whole (V m c main_arg0) (V m c main_arg1) (KK m) (VV m) (V m c main_arg4) f5 (V m c main_v3)); iexact H5

/-! ## The region's arrays at its end -/

/-- The buffers of a device after the region: as before it, the result replaced. -/
def W₁ (c : Dev nD) : Valuation τ sig (Elt F) := Function.update (StableHlo.after hostOps0 (fun b => m (c, b))) (Proc.devRef .tc main_v3) (outV m c)

theorem W₁_out (c : Dev nD) : W₁ m c (Proc.devRef .tc main_v3) = outV m c := Function.update_self _ _ _
theorem W₁_of_ne (c : Dev nD) (b : Ref sig .tc) (h : b ≠ main_v3) : W₁ m c (Proc.devRef .tc b) = V m c b :=
  Function.update_of_ne (StableHlo.devRef_ne_of_ne h) _ _

theorem arr_end (c : Dev nD) (w : Fin cfg0.W) : (dat m c).arrAt w cfg0.N = W₁ m c (Proc.devRef .tc (Pipeline.arrRef spec0 w)) := by
  fin_cases w
  · exact ((dat m c).arrAt_in 0 rfl _).trans (W₁_of_ne m c main_arg0 (by decide)).symm
  · exact ((dat m c).arrAt_in 1 rfl _).trans (W₁_of_ne m c main_arg1 (by decide)).symm
  · exact ((dat m c).arrAt_in 2 rfl _).trans (W₁_of_ne m c main_v1 (by decide)).symm
  · exact ((dat m c).arrAt_in 3 rfl _).trans (W₁_of_ne m c main_v2 (by decide)).symm
  · exact ((dat m c).arrAt_in 4 rfl _).trans (W₁_of_ne m c main_arg4 (by decide)).symm
  · refine Eq.trans ?_ (W₁_out m c).symm
    refine (dat m c).arrAt_eq_of_covers 5 _ (by decide +kernel) fun t hf y => ?_
    exact congrArg (outV m c) (funext fun a => Fin.ext (by fin_cases a <;> blk_simp <;> exact ((congrArg (· + _) (Nat.zero_mul _)).trans (Nat.zero_add _)).symm))

end Cert.Proof

end
-- ==== Proof.Launch.lean ====
/-
  The launch: the exchange's ghost state dealt to the devices, the region entered and left, and the run of @main on the
  four devices.
-/
module

public import proofs.«01_k».proof.Proof.Region

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## Families side by side -/

theorem both {ι : Type} [DecidableEq ι] (s : Finset ι) (Φ Ψ : ι → sProp 𝕄) :
    iprop(bigSep s Φ ∗ bigSep s Ψ) ⊢ bigSep s fun i => iprop(Φ i ∗ Ψ i) := Entails.of_eq (bigSep_sep' s Φ Ψ).symm
theorem apart {ι : Type} [DecidableEq ι] (s : Finset ι) (Φ Ψ : ι → sProp 𝕄) :
    (bigSep s fun i => iprop(Φ i ∗ Ψ i)) ⊢ iprop(bigSep s Φ ∗ bigSep s Ψ) := Entails.of_eq (bigSep_sep' s Φ Ψ)

/-! ## What a device holds before its semaphores are opened -/

/-- The ghost state of device `c` from launch: its own semaphores still to be opened. -/
def ghost (c : Dev nD) : sProp 𝕄 :=
  iprop(recs m K ∗ posB c 0 ∗ bigSep Finset.univ (fun k : Fin 12 => openTok EX (xCell c k)) ∗ toks c)

def Tk (c : Dev nD) : sProp 𝕄 := iprop((∃ K, ghost m K c) ∗ creds c)
def Xk (c : Dev nD) : sProp 𝕄 := iprop((∃ K, opened m K c) ∗ levAts L lv ∗ creds c)

theorem open_x (c : Dev nD) (k : Fin 12) :
    iprop(recs m K ∗ (openTok EX (xCell c k) ∗ semVal (xCell c k) 0)) ⊢ (|={Set.univ}=> iprop(pos c k 0 ∗ rch c k) : sProp 𝕄) := by
  iintro ⟨#Hr, Ho, Hs⟩
  imod (Rounds.cell_open EX (sched m) (g := xCell c k) (Set.mem_univ (K (xCell c k)))) $$ [Ho Hs] with ⟨Hat, Hre⟩
  · isplitr; · iapply (recs_x m K c k); iexact Hr
    isplitl [Ho] <;> iassumption
  imodintro
  isplitl [Hat] <;> iassumption

theorem open_all (c : Dev nD) :
    iprop(recs m K ∗ bigSep Finset.univ (fun k : Fin 12 => iprop(openTok EX (xCell c k) ∗ semVal (xCell c k) 0)))
      ⊢ (|={Set.univ}=> bigSep Finset.univ (fun k => iprop(pos c k 0 ∗ rch c k)) : sProp 𝕄) := by
  refine BI.Entails.trans ?_ (bigSep_fupd _ _)
  exact bigSep_with_persistent (fun k _ => open_x m K c k)

theorem hopen (c : Dev nD) : iprop(Tk m c ∗ Pipeline.ownSems0 osem c ∗ levAts L lv) ⊢ (|={Set.univ}=> Xk m c : sProp 𝕄) := by
  unfold Tk Xk ghost
  iintro ⟨⟨⟨%K, #Hr, HpB, Ho, Ht⟩, Hcr⟩, Hs, Hlev⟩
  ihave Hos := (both Finset.univ (fun k : Fin 12 => openTok EX (xCell c k)) (fun k : Fin 12 => semVal (xCell c k) 0)) $$ [Ho Hs]
  · isplitl [Ho]; · iexact Ho
    iapply (show Pipeline.ownSems0 osem c ⊢ (bigSep Finset.univ (fun k : Fin 12 => semVal (xCell c k) 0) : sProp 𝕄) from BI.Entails.refl _)
    iexact Hs
  imod (open_all m K c) $$ [Hos] with Hpr
  · isplitr; · iexact Hr
    iexact Hos
  ihave Hpr := (apart _ _ _) $$ Hpr
  icases Hpr with ⟨Hp, Hre⟩
  imodintro
  isplitr [Hlev Hcr]
  · iexists K; unfold opened
    isplitr; · iexact Hr
    isplitl [HpB]; · iexact HpB
    isplitl [Hp]; · iexact Hp
    isplitl [Hre]; · iexact Hre
    iexact Ht
  isplitl [Hlev] <;> iassumption

/-! ## The region -/

/-- The buffers a device holds before the region. -/
abbrev W₀ (c : Dev nD) : Valuation τ sig (Elt F) := StableHlo.after hostOps0 (fun b => m (c, b))
abbrev bufs : Finset (DevRef τ sig) := Pipeline.ucRefs τ sig
abbrev arrs : Finset (DevRef τ sig) := Pipeline.arrRefs (τ := τ) (pcfgs (F := F) 0).spec
theorem arrs_sub : arrs (F := F) ⊆ bufs := Pipeline.arrRefs_sub_ucRefs _ winFacts0.arr_unscoped

theorem W₁_off (c : Dev nD) (b : DevRef τ sig) (h : b ∉ arrs (F := F)) : W₁ m c b = W₀ m c b :=
  Function.update_of_ne (fun e => h (by subst e; exact (show Proc.devRef (τ := τ) .tc main_v3 ∈ Pipeline.arrRefs (τ := τ) spec0 by decide))) _ _

theorem scopedRest_eq (c : Dev nD) : (Pipeline.scopedRest (Ix := Unit) (Name := ℕ) (U := UU) (Lvl := ℕ) (Val := Elt F) (Pipeline.pin (pcfgs (F := F)) adm 0).spec c : sProp 𝕄) = landing c :=
  scopedRest0_eq c

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (W₀ m c) ∗ Xk m c) ⊢ (pdats m 0 c).Φ 0 := by
  rw [show (pdats m 0 c).Φ 0 = Φin m c from Φ_zero m c 0 rfl, scopedRest_eq]
  unfold Φin Xk
  iintro ⟨Hl, Hp, -, HK, Hlev, Hcr⟩
  isplitl [HK]; · iexact HK
  isplitl [Hlev]; · iexact Hlev
  isplitl [Hcr]; · iexact Hcr
  isplitl [Hl] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₁ m c) ∗ Pipeline.ownSems0 osem c ∗ semVal (barCell c) 0) := by
  rw [show (pdats m 0 c).Φ (Fin.last _) = Φout c from Φ_pos m c _ last_ne, scopedRest_eq, held_none]
  unfold Φout
  iintro ⟨Hb, Hx, Hl, Hp⟩
  isplitl [Hl]; · iexact Hl
  isplitl [Hp]; · iexact Hp
  isplitr; · iempintro
  isplitl [Hx]
  · iapply (show (bigSep Finset.univ (fun k : Fin 12 => semVal (xCell c k) 0) : sProp 𝕄) ⊢ Pipeline.ownSems0 osem c from BI.Entails.refl _)
    iexact Hx
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_above (c : Dev nD) (t : Fin (cfg0.N + 1)) : Above 0 ((dat m c).owed t) := by
  by_cases h : t.val = 0
  · rw [owed_zero m c t h]; exact above_O₀ c
  · rw [owed_pos m c t h]; exact above_zero 0

theorem stage_low (c : Dev nD) (w : Fin 6) (s : Fin (win0 w).nbuf) : lv ((c : Thread nD τ), .dma ((win0 w).sem s)) () ≤ 0 := by
  fin_cases w <;> exact Nat.le_refl 0

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    ∅ (bufs \ arrs (F := F)) (Finset.empty_subset _) kitP rfl (fun c => (body m c).loose)
    (fun _ => 0) O₀ (fun c => (owed_zero m c 0 rfl).trans (zero_add _).symm) (fun c => owed_pos m c _ last_ne) (fun _ => rfl)
    (fun c w => by show (if (cfg0.win w).isOut then fullShare else fullShare) = fullShare; exact ite_self _)
    (W₀ m) (W₁ m) (fun c b hb => W₁_off m c b (Finset.mem_sdiff.mp (Finset.mem_sdiff.mp hb).1).2)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => stage_low c w s, fun c t g i h => owed_above m c t g i h⟩
    (fun _ => iprop(emp))
    (fun c w => rfl) (fun c w => arr_end m c w)

/-- What rides beside the buffers up to the region. -/
def R (c : Dev nD) : sProp 𝕄 := iprop(Tk m c ∗ (∃ r, prngReg c r) ∗ ow c (O₀ c))

theorem hostOps0_in : ∀ op ∈ (hostOps0 : List (HloOp τ sig (Elt F))), op.bufs ⊆ bufs := fun op h =>
  Pipeline.sub_ucRefs op (List.forall_iff_forall_mem.mp hostOps0_sub op h)

def seg : ℍ := Pipeline.HostSeg.ofOps _ _ _ _ _ bufs hostOps0 hostOps0_in (List.forall_iff_forall_mem.mp hostOps0_fresh) (fun c b => m (c, b)) (R m)

theorem reg_pre (c : Dev nD) : iprop(StableHlo.held (c : Thread nD τ) bufs (W₀ m c) ∗ R m c) ⊢ (reg m).pre c := by
  show _ ⊢ iprop(StableHlo.held (c.tc : Thread nD τ) arrs (W₀ m c) ∗ (∃ r, prngReg c r)
    ∗ (StableHlo.held (c.tc : Thread nD τ) (bufs \ arrs (F := F)) (W₀ m c) ∗ emp) ∗ Tk m c ∗ ∃ Wd, owes (c : Thread nD τ) (0 + O₀ c) Wd)
  rw [zero_add, StableHlo.held_sub_split _ (arrs_sub (F := F))]
  unfold R ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

abbrev Tₙ (c : Dev nD) : sProp 𝕄 := iprop(StableHlo.held (c : Thread nD τ) bufs (W₁ m c) ∗ semVal (barCell c) 0)

theorem reg_post (c : Dev nD) : (reg m).post c
    ⊢ iprop(Tₙ m c ∗ ∃ W, owes (c : Thread nD τ) (0 : CellTallies nD τ sig Unit) W) := by
  show iprop(StableHlo.held (c.tc : Thread nD τ) arrs (W₁ m c) ∗ (∃ r, prngReg c r)
    ∗ (StableHlo.held (c.tc : Thread nD τ) (bufs \ arrs (F := F)) (W₁ m c) ∗ emp) ∗ semVal (barCell c) 0
    ∗ ∃ Wd, owes (c : Thread nD τ) (0 : CellTallies nD τ sig Unit) Wd) ⊢ _
  unfold Tₙ
  rw [StableHlo.held_sub_split _ (arrs_sub (F := F))]
  iintro ⟨Ha, -, ⟨Hr, -⟩, Hb, HO⟩
  isplitr [HO]
  · isplitl [Ha Hr]
    · isplitl [Ha] <;> iassumption
    iexact Hb
  iexact HO

/-! ## The launch's ghost state -/

theorem cellAt_inj : Function.Injective cellAt := by
  rintro ⟨c, a⟩ ⟨d, b⟩ h
  have h1 : c = d := by
    cases a <;> cases b <;> exact congrArg (fun g : GSem nD τ sig => g.1.1) h
  subst h1
  have h2 : ∀ a b : Option (Fin 12), (cellAt (c, a)).2 = (cellAt (c, b)).2 → a = b := by
    rintro (_ | a) (_ | b)
    · intro _; rfl
    · intro h; exact absurd h (by simp [cellAt])
    · intro h; exact absurd h (by simp [cellAt])
    · intro h
      have := congrArg Fin.val (SemLoc.dma.inj h : xS a = xS b)
      exact congrArg some (Fin.ext (Nat.add_left_cancel this))
  rw [h2 a b (congrArg Prod.snd h)]

def cellEmb : CIx ↪ GSem nD τ sig := ⟨cellAt, cellAt_inj⟩
def barEmb : Dev nD ↪ GSem nD τ sig := ⟨barCell, fun _ _ h => congrArg (fun g : GSem nD τ sig => g.1.1) h⟩
def xEmb : Dev nD × Fin 12 ↪ GSem nD τ sig := ⟨fun p => xCell p.1 p.2, fun p q h => by
  have := cellAt_inj (a₁ := (p.1, some p.2)) (a₂ := (q.1, some q.2)) h
  exact Prod.ext (congrArg (fun t : CIx => t.1) this) (Option.some.inj (congrArg (fun t : CIx => t.2) this))⟩
def tokEmb : Dev nD × CIx ↪ GSem nD τ sig × ℕ × Dev nD := ⟨fun p => (cellAt p.2, 0, p.1), fun _ _ h =>
  Prod.ext (congrArg (fun t : GSem nD τ sig × ℕ × Dev nD => t.2.2) h) (cellAt_inj (congrArg (fun t : GSem nD τ sig × ℕ × Dev nD => t.1) h))⟩

/-- The barriers are live at launch; the kernel's own semaphores are opened when the region is entered. -/
abbrev barCells : Finset (GSem nD τ sig) := Finset.univ.map barEmb
abbrev xCells : Finset (GSem nD τ sig) := Finset.univ.map xEmb
abbrev rights : Finset (GSem nD τ sig × ℕ × Dev nD) := Finset.univ.map tokEmb

theorem cells_disjoint : Disjoint barCells xCells := by
  rw [Finset.disjoint_left]
  intro g h₁ h₂
  obtain ⟨c, -, rfl⟩ := Finset.mem_map.mp h₁
  obtain ⟨p, -, h⟩ := Finset.mem_map.mp h₂
  exact absurd (cellAt_inj (a₁ := (p.1, some p.2)) (a₂ := (c, none)) h) (by simp)

theorem cells_union : barCells ∪ xCells = Finset.univ.map cellEmb := by
  ext g
  simp only [Finset.mem_union, Finset.mem_map, Finset.mem_univ, true_and]
  constructor
  · rintro (⟨c, rfl⟩ | ⟨p, rfl⟩)
    · exact ⟨(c, none), rfl⟩
    · exact ⟨(p.1, some p.2), rfl⟩
  · rintro ⟨⟨c, a⟩, rfl⟩
    cases a with
    | none => exact .inl ⟨c, rfl⟩
    | some k => exact .inr ⟨(c, k), rfl⟩

def u₀ : UU :=
  (initOf (Pipeline.cells (Pipeline.pin (pcfgs (F := F)) adm) cellOf_inj) (Pipeline.launchToks (Pipeline.pin (pcfgs (F := F)) adm) cellOf_inj),
    launchOf barCells xCells rights)

/-- The exchange's ghost state, all of it kept by device 0 until it is dealt. -/
def kept : sProp 𝕄 := BI.own (EX (launchOf barCells xCells rights))
def G (c : Dev nD) : sProp 𝕄 := if c = 0 then kept else iprop(emp)

theorem G_all : bigSep Finset.univ (G (F := F)) = kept := by
  rw [bigSep_univ_eq_bigSepL [0, 1, 2, 3] (by decide) (by decide)]
  have h0 : G (F := F) 0 = kept := if_pos rfl
  have hn : ∀ c : Dev nD, c ≠ 0 → G (F := F) c = iprop(emp) := fun c h => if_neg h
  simp only [bigSepL_cons_cons, bigSepL_singleton]
  rw [h0, hn 1 (by decide), hn 2 (by decide), hn 3 (by decide)]
  have e (X : sProp 𝕄) : iprop(X ∗ emp) = X := BI.equiv_iff.mp sep_emp
  exact (congrArg (BI.sep _) ((congrArg (BI.sep _) (e _)).trans (e _))).trans (e _)

/-- What a device keeps of the dealt state. -/
def own₀ (c : Dev nD) : sProp 𝕄 :=
  iprop(posB c 0 ∗ bigSep Finset.univ (fun k : Fin 12 => openTok EX (xCell c k)) ∗ toks c)

theorem ghost_of (c : Dev nD) : iprop(recs m K ∗ own₀ c) ⊢ iprop(∃ K, ghost m K c) := by
  unfold own₀ ghost
  iintro ⟨Hr, Ho⟩
  iexists K
  isplitl [Hr] <;> iassumption

theorem fund : iprop((bigSep Finset.univ fun c : Dev nD => semVal (barCell c) 0) ∗ kept (F := F))
    ⊢ (|={Set.univ}=> bigSep Finset.univ (fun c => iprop(∃ K, ghost m K c)) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (posB c 0 : sProp 𝕄)) :=
    Entails.of_eq (bigSep_map (s := Finset.univ) barEmb (Φ := fun g : GSem nD τ sig => (atPos EX g 0 ∅ 0 : sProp 𝕄)))
  have hre : bigSep barCells (fun g => (reached EX g 0 : sProp 𝕄)) ⊢ bigSep Finset.univ (fun c : Dev nD => (reached EX (barCell c) 0 : sProp 𝕄)) :=
    Entails.of_eq (bigSep_map (s := Finset.univ) barEmb (Φ := fun g : GSem nD τ sig => (reached EX g 0 : sProp 𝕄)))
  have hop : bigSep xCells (fun g => (openTok EX g : sProp 𝕄))
      ⊢ bigSep Finset.univ (fun c : Dev nD => bigSep Finset.univ fun k : Fin 12 => (openTok EX (xCell c k) : sProp 𝕄)) :=
    Entails.of_eq (by rw [bigSep_map, bigSep_univ_prod]; rfl)
  have htk : bigSep rights (fun x => (dutyTok EX x.1 x.2.1 x.2.2 : sProp 𝕄)) ⊢ bigSep Finset.univ (fun c : Dev nD => (toks c : sProp 𝕄)) :=
    Entails.of_eq (by rw [bigSep_map, bigSep_univ_prod]; rfl)
  have hin (κ : GSem nD τ sig → ℕ) : bigSep (barCells ∪ xCells) (fun g => (cellInv EX (sched m) (κ g) g : sProp 𝕄))
      ⊢ bigSep Finset.univ (fun p : CIx => (cellInv EX (sched m) (κ (cellAt p)) (cellAt p) : sProp 𝕄)) :=
    Entails.of_eq (by rw [cells_union, bigSep_map]; rfl)
  unfold kept
  iintro ⟨Hv, Hu⟩
  imod (Rounds.fund_launch EX (sched m) cells_disjoint (fun g _ h => h) rights) $$ [Hv Hu] with ⟨%κ, -, #Hinv, #Hr, Hat, Hopen, Htok⟩
  · isplitl [Hv]
    · iapply hv $$ Hv
    iexact Hu
  imodintro
  iapply (bigSep_with_persistent (R := recs m κ) (Φ := fun c => own₀ c) fun c _ => ghost_of m κ c)
  isplitr
  · unfold recs
    isplitr
    · iapply (hin κ); iexact Hinv
    iapply hre; iexact Hr
  unfold own₀
  iapply (both _ _ _); isplitl [Hat]; · iapply hat $$ Hat
  iapply (both _ _ _); isplitl [Hopen]; · iapply hop $$ Hopen
  iapply htk $$ Htok

/-! ## The launch credit -/

theorem x_ne_bar (c d : Dev nD) (k : Fin 12) : xCell c k ≠ barCell d := fun h =>
  absurd (cellAt_inj (a₁ := (c, some k)) (a₂ := (d, none)) h) (by simp)
theorem x_eq_iff (c d : Dev nD) (k l : Fin 12) : xCell c k = xCell d l ↔ c = d ∧ k = l :=
  ⟨fun h => by have := cellAt_inj (a₁ := (c, some k)) (a₂ := (d, some l)) h; simpa using this, fun ⟨a, b⟩ => by rw [a, b]⟩
theorem bar_eq_iff (c d : Dev nD) : barCell c = barCell d ↔ c = d :=
  ⟨fun h => congrArg (fun g : GSem nD τ sig => g.1.1) h, fun a => by rw [a]⟩

theorem tally_xx (c d : Dev nD) (k l : Fin 12) (n : ℕ) : (tallyAt (xCell d l) () n : CellTallies nD τ sig Unit) (xCell c k) () = if c = d ∧ k = l then n else 0 := by
  rw [tallyAt_apply]; simp only [x_eq_iff, and_true]
theorem tally_bx (c d : Dev nD) (k : Fin 12) (n : ℕ) : (tallyAt (barCell d) () n : CellTallies nD τ sig Unit) (xCell c k) () = 0 := by
  rw [tallyAt_apply, if_neg (fun h => x_ne_bar c d k h.1)]
theorem tally_xb (c d : Dev nD) (k : Fin 12) (n : ℕ) : (tallyAt (xCell d k) () n : CellTallies nD τ sig Unit) (barCell c) () = 0 := by
  rw [tallyAt_apply, if_neg (fun h => x_ne_bar d c k h.1.symm)]
theorem tally_bb (c d : Dev nD) (n : ℕ) : (tallyAt (barCell d) () n : CellTallies nD τ sig Unit) (barCell c) () = if c = d then n else 0 := by
  rw [tallyAt_apply]; simp only [bar_eq_iff, and_true]

theorem owed_bar (c : Dev nD) : ∑ d, O₀ d (barCell c) () = 2 := by
  rw [Fin.sum_univ_four]
  unfold O₀ O₁ rgt lft
  simp only [Pi.add_apply, Finsupp.add_apply, Pi.zero_apply, Finsupp.zero_apply, tally_xb, tally_bb]
  revert c; decide

theorem owed_x (c : Dev nD) (k : Fin 12) (hc : c ≠ 0) (hk : 8 ≤ k.val) : ∑ d, O₀ d (xCell c k) () = N := by
  rw [Fin.sum_univ_four]
  unfold O₀ O₁ rgt lft
  simp only [Pi.add_apply, Finsupp.add_apply, Pi.zero_apply, Finsupp.zero_apply, tally_xx, tally_bx]
  generalize N = n
  fin_cases c
  · exact absurd rfl hc
  all_goals
    fin_cases k <;> first | exact absurd hk (by decide) | simp

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, owed_bar]
theorem credit_x (c : Dev nD) (k : Fin 12) (hc : c ≠ 0) (hk : 8 ≤ k.val) :
    tallyOn (xCell c k) (launchCredit (Pipeline.owing O₀) 0 (xCell c k)) = (tallyAt (xCell c k) () N : CellTallies nD τ sig Unit) := by
  unfold tallyAt; refine congrArg _ (Finsupp.ext fun u => ?_); cases u
  rw [Pipeline.launchCredit_owing, Finsupp.single_eq_same, owed_x c k hc hk]

theorem creds_0 : (Pipeline.launchCred O₀ 0 : sProp 𝕄) ⊢ creds 0 := by
  unfold Pipeline.launchCred
  refine (bigSep_elim (Finset.mem_univ (SemLoc.reg barS))).trans ?_
  exact Entails.of_eq (congrArg cred (credit_bar 0))

theorem creds_n (c : Dev nD) (hc : c ≠ 0) : (Pipeline.launchCred O₀ c : sProp 𝕄) ⊢ iprop(crB c ∗ crX c 8 ∗ crX c 9 ∗ crX c 10 ∗ crX c 11) := by
  unfold Pipeline.launchCred crB crX
  rw [← credit_bar, ← credit_x c 8 hc (by decide), ← credit_x c 9 hc (by decide), ← credit_x c 10 hc (by decide), ← credit_x c 11 hc (by decide)]
  refine (bigSep_subset (Finset.subset_univ [SemLoc.reg barS, osem 8, osem 9, osem 10, osem 11].toFinset)).trans ?_
  exact Entails.of_eq (bigSep_eq_bigSepL_of_eq _ rfl (by decide) _)

theorem creds_all (c : Dev nD) : (Pipeline.launchCred O₀ c : sProp 𝕄) ⊢ creds c := by
  fin_cases c
  · exact creds_0
  · exact creds_n 1 (by decide)
  · exact creds_n 2 (by decide)
  · exact creds_n 3 (by decide)

/-! ## The run -/

abbrev T₀ (c : Dev nD) : sProp 𝕄 := iprop(StableHlo.held (c : Thread nD τ) bufs (fun b => m (c, b)) ∗ R m c)

theorem only_bar : ∀ sm : SemLoc sig, sm.isScoped .tc = false → sm = .reg barS := by decide

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- A device's launch holdings outside the exchange's ghost state. -/
def rest₀ (c : Dev nD) : sProp 𝕄 :=
  iprop(StableHlo.held (c : Thread nD τ) bufs (fun b => m (c, b)) ∗ creds c ∗ (∃ r, prngReg c r) ∗ ow c (O₀ c))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest₀ m c ∗ (semVal (barCell c) 0 ∗ G c)) : sProp 𝕄) := by
    rw [show unscopedBufs c (fun b => m ((c : Thread nD τ).loc b)) = StableHlo.held (c : Thread nD τ) bufs (fun b => m (c, b)) from
      Pipeline.unscopedBufs_held c (fun b => m (c, b)), sems_eq]
    unfold rest₀ ow
    iintro ⟨Hh, Hus, HO, Hcr, Hp, HG⟩
    isplitl [Hh HO Hcr Hp]
    · isplitl [Hh]; · iexact Hh
      isplitl [Hcr]; · iapply (creds_all c); iexact Hcr
      isplitl [Hp]; · iexists (ρ c); iexact Hp
      iexists ∅; iexact HO
    isplitl [Hus] <;> iassumption
  have hlast (c : Dev nD) : iprop((∃ K, ghost m K c) ∗ rest₀ m c) ⊢ T₀ m c := by
    unfold rest₀ T₀ R Tk
    iintro ⟨Hg, Hh, Hcr, Hp, HO⟩
    isplitl [Hh]; · iexact Hh
    isplitl [Hg Hcr]
    · isplitl [Hg] <;> iassumption
    isplitl [Hp] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest₀ m c ∗ (semVal (barCell c) 0 ∗ G c)) : sProp 𝕄) from bigSep_mono fun c _ => hcore c) $$ H
  ihave H2 := (apart Finset.univ (fun c : Dev nD => rest₀ m c) (fun c : Dev nD => iprop(semVal (barCell c) 0 ∗ G c))) $$ H'
  icases H2 with ⟨HB, H3⟩
  ihave H4 := (apart Finset.univ (fun c : Dev nD => semVal (barCell c) 0) (fun c : Dev nD => G (F := F) c)) $$ H3
  icases H4 with ⟨Hv, HG⟩
  ihave Hk := (Entails.of_eq (G_all (F := F))) $$ HG
  imod (fund m) $$ [Hv Hk] with Hg
  · isplitl [Hv] <;> iassumption
  imodintro
  iapply (show (bigSep Finset.univ fun c : Dev nD => iprop((∃ K, ghost m K c) ∗ rest₀ m c)) ⊢ bigSep Finset.univ (T₀ m) from bigSep_mono fun c _ => hlast c)
  iapply (both Finset.univ (fun c : Dev nD => iprop(∃ K, ghost m K c)) (fun c : Dev nD => rest₀ m c))
  isplitl [Hg] <;> iassumption

abbrev pt (c : Dev nD) (b : Ref sig .tc) (W : Valuation τ sig (Elt F)) : sProp 𝕄 :=
  (Memref.whole b).view.loc (c : Thread nD τ) ↦{fullShare} (W (Proc.devRef .tc b))

theorem held_eq (c : Dev nD) (W : Valuation τ sig (Elt F)) : (StableHlo.held (c : Thread nD τ) bufs W : sProp 𝕄)
    = iprop(pt c main_arg0 W ∗ pt c main_arg1 W ∗ pt c main_arg2 W ∗ pt c main_arg3 W ∗ pt c main_arg4 W ∗ pt c main_v1 W ∗ pt c main_v2 W ∗ pt c main_v3 W) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3] (by decide) (by decide)]
  rfl

/-- What a final memory says of device `c`. -/
def ends (e : (ℓ : Loc nD τ sig) → Buf (Elt F) ℓ) (c : Dev nD) : Prop :=
  e ((c : Thread nD τ).loc main_arg0) = m ((c : Thread nD τ).loc main_arg0)
    ∧ e ((c : Thread nD τ).loc main_arg1) = m ((c : Thread nD τ).loc main_arg1)
    ∧ e ((c : Thread nD τ).loc main_arg2) = m ((c : Thread nD τ).loc main_arg2)
    ∧ e ((c : Thread nD τ).loc main_arg3) = m ((c : Thread nD τ).loc main_arg3)
    ∧ e ((c : Thread nD τ).loc main_arg4) = m ((c : Thread nD τ).loc main_arg4)
    ∧ e ((c : Thread nD τ).loc main_v3) = outV m c

set_option backward.isDefEq.respectTransparency.types false in
/-- Every run of @main ends with the arguments as they were, every device's result the value read off the body, and
    every semaphore at zero. -/
theorem run_main : θ_run defs (onTc (τ := τ) (main (F := F))) ⟨m, fun _ => 0, ρ⟩
    (fun r => (∀ c : Dev nD, ends m r.2.mem c) ∧ r.2.sem = fun _ => 0) :=
  Pipeline.θ_run_regions_kit_sems (pcfgs (F := F)) adm (pdats m) () cellOf_inj EP defs₀ 𝒱₀ L lv m ρ main [.host (seg m), .region (reg m)]
    (fun c Q => by rw [main_segs adm (pdats m) () 𝒱₀ L lv (seg m) (reg m) rfl c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); unfold kept; iexact HX)
    (T₀ := T₀ m) (Tₙ := Tₙ m)
    (hch := ⟨fun c => .rfl, fun c => reg_pre m c, fun c => reg_post m c⟩)
    (hinit := init m ρ)
    (QY := fun c s => ends m s.mem c ∧ s.sem (barCell c) = 0)
    (hfin := fun c s' => by
      dsimp only [Tₙ]; rw [held_eq]
      iintro ⟨⟨⟨H0, H1, H2, H3, H4, -, -, Ho⟩, Hb⟩, HSI⟩
      icombine HSI H0 gives %h0
      icombine HSI H1 gives %h1
      icombine HSI H2 gives %h2
      icombine HSI H3 gives %h3
      icombine HSI H4 gives %h4
      icombine HSI Ho gives %ho
      icombine HSI Hb gives %hb
      imodintro
      isplitr
      · ipureintro
        refine ⟨⟨?_, ?_, ?_, ?_, ?_, ?_⟩, by simpa using hb⟩
        · exact (Buf.eq_of_forall_mem_univ h0).trans ((W₁_of_ne m c main_arg0 (by decide)).trans (V_main_arg0 m c))
        · exact (Buf.eq_of_forall_mem_univ h1).trans ((W₁_of_ne m c main_arg1 (by decide)).trans (V_main_arg1 m c))
        · exact (Buf.eq_of_forall_mem_univ h2).trans ((W₁_of_ne m c main_arg2 (by decide)).trans (V_main_arg2 m c))
        · exact (Buf.eq_of_forall_mem_univ h3).trans ((W₁_of_ne m c main_arg3 (by decide)).trans (V_main_arg3 m c))
        · exact (Buf.eq_of_forall_mem_univ h4).trans ((W₁_of_ne m c main_arg4 (by decide)).trans (V_main_arg4 m c))
        · exact (Buf.eq_of_forall_mem_univ ho).trans (W₁_out m c)
      iexact HSI)
    (hQ := fun s h hs => ⟨fun c => (h c).1, sem_eq_zero hs fun c sm hsm => by
        obtain rfl := only_bar sm hsm
        exact (h c).2⟩)

end Cert.Proof

end
-- ==== Proof.Math.lean ====
/-
  The mathematics of one row of block-causal attention over the extended reals. Query `i` sees key `j` when
  `j / 64 ≤ i / 64`. One form takes the plain exponential of the scores of 256 keys; the other subtracts the row's
  maximum over 1024 keys, of which those past the first 256 are seen by no query. This module names no program.
-/
module

public import Idealize.ShloMosaic.PureOps.Ideal.Laws
public import Idealize.ShloMosaic.Lib.IdealHost

@[expose] public section

noncomputable section

namespace Cert.Proof.Row

open Idealize.ShloMosaic
open scoped BigOperators

/-- The scale of the scores. -/
abbrev scale : EReal := Ideal.ofBits .f32 0x3E000000#32

theorem scale_real : ∃ c : ℝ, scale = (c : EReal) :=
  ⟨_, by simp only [scale, Ideal.ofBits, Ideal.ieee]; rw [if_neg (by decide), if_neg (by decide)]⟩

/-! ## Finite values -/

/-- A finite extended real. -/
def Fin' (x : EReal) : Prop := ∃ r : ℝ, x = (r : EReal)

theorem Fin'.mul {x y : EReal} : Fin' x → Fin' y → Fin' (x * y)
  | ⟨a, ha⟩, ⟨b, hb⟩ => ⟨a * b, by rw [ha, hb, EReal.coe_mul]⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem Fin'.sum {n : ℕ} {f : Fin n → EReal} (h : ∀ k, Fin' (f k)) : Fin' (∑ k, f k) := by
  choose g hg using h
  exact ⟨∑ k, g k, by rw [coe_sum]; exact Finset.sum_congr rfl fun k _ => hg k⟩

theorem Fin'.of_abs {x : EReal} (h : max x (-x) < ⊤) : Fin' x := by
  induction x with
  | bot => exact absurd h (by simp)
  | coe r => exact ⟨r, rfl⟩
  | top => exact absurd h (by simp)

/-! ## The two forms -/

section Forms

variable {n : ℕ} (i : ℕ) (q : Fin 64 → EReal) (k : Fin n → Fin 64 → EReal)

/-- A score: the scaled query row against a key. -/
def score (j : Fin n) : EReal := ∑ d, (q d * scale) * k j d
/-- A key's exponential, zero where the key is not seen. -/
def ex (j : Fin n) : EReal := if j.val / 64 ≤ i / 64 then Ideal.exp (score q k j) else 0
/-- A key's weight. -/
def wt (j : Fin n) : EReal := Ideal.div (ex i q k j) (∑ j', ex i q k j')

/-- A score scaled after its sum, `⊥` where the key is not seen. -/
def mscore (j : Fin n) : EReal := if j.val / 64 ≤ i / 64 then (∑ d, q d * k j d) * scale else ⊥
/-- A key's exponential past a maximum. -/
def mex (M : EReal) (j : Fin n) : EReal := Ideal.exp (mscore i q k j - M)
/-- A key's weight by that form. -/
def mwt (M : EReal) (j : Fin n) : EReal := Ideal.div (mex i q k M j) (∑ j', mex i q k M j')

end Forms

/-- Scaling the row before the product and after it give one finite score. -/
theorem score_eq {n : ℕ} {q : Fin 64 → EReal} {k : Fin n → Fin 64 → EReal} (hq : ∀ d, Fin' (q d)) {j : Fin n} (hk : ∀ d, Fin' (k j d)) :
    ∃ r : ℝ, score q k j = (r : EReal) ∧ (∑ d, q d * k j d) * scale = (r : EReal) := by
  obtain ⟨c, hc⟩ := scale_real
  choose a ha using hq
  choose b hb using hk
  refine ⟨∑ d, (a d * c) * b d, ?_, ?_⟩
  · unfold score
    rw [coe_sum]
    exact Finset.sum_congr rfl fun d _ => by rw [ha, hb, hc, EReal.coe_mul, EReal.coe_mul]
  · have h : ∑ d, q d * k j d = ((∑ d, a d * b d : ℝ) : EReal) := by
      rw [coe_sum]
      exact Finset.sum_congr rfl fun d _ => by rw [ha, hb, EReal.coe_mul]
    rw [h, hc, ← EReal.coe_mul, Finset.sum_mul]
    exact congrArg _ (Finset.sum_congr rfl fun d _ => by ring)

/-- A sum over 1024 keys whose terms past the first 256 are zero. -/
theorem sum_first {f : Fin 1024 → EReal} (h : ∀ j : Fin 1024, 256 ≤ j.val → f j = 0) :
    ∑ j, f j = ∑ j : Fin 256, f (Fin.castLE (by decide) j) := by
  rw [show (∑ j, f j) = ∑ j : Fin (256 + 768), f j from rfl, Fin.sum_univ_add]
  rw [Finset.sum_eq_zero (s := Finset.univ) (f := fun j : Fin 768 => f (Fin.natAdd 256 j)) fun j _ => h _ (by simp), add_zero]
  rfl

theorem div_coe {a b : ℝ} (hb : b ≠ 0) : Ideal.div (a : EReal) (b : EReal) = ((a / b : ℝ) : EReal) := by
  unfold Ideal.div
  rw [if_neg (by simpa using hb), ← EReal.coe_inv, ← EReal.coe_mul, div_eq_mul_inv]

section Main

variable {i : ℕ} (hi : i < 256) {q : Fin 64 → EReal} {k : Fin 1024 → Fin 64 → EReal}
  (hq : ∀ d, Fin' (q d)) (hk : ∀ j : Fin 1024, j.val < 256 → ∀ d, Fin' (k j d))

/-- The first 256 keys. -/
abbrev first {α : Type} (f : Fin 1024 → α) (j : Fin 256) : α := f (Fin.castLE (by decide) j)

include hi in
theorem unseen {j : Fin 1024} (h : 256 ≤ j.val) : ¬ j.val / 64 ≤ i / 64 := by omega

include hi hq hk in
theorem mscore_cases (j : Fin 1024) : mscore i q k j = ⊥ ∨ Fin' (mscore i q k j) := by
  unfold mscore
  split
  · rename_i h
    obtain ⟨r, -, h'⟩ := score_eq hq (hk j (by omega))
    exact .inr ⟨r, h'⟩
  · exact .inl rfl

include hq hk in
theorem mscore_zero : Fin' (mscore i q k 0) := by
  obtain ⟨r, -, h⟩ := score_eq hq (hk 0 (by decide))
  exact ⟨r, by unfold mscore; rw [if_pos (by simp), h]⟩

include hi hq hk in
/-- **Both forms give a key of the first 256 one weight, and the other form gives the rest none.** -/
theorem mwt_eq {M : EReal} (hM : Fin' M) :
    (∀ j : Fin 256, mwt i q k M (Fin.castLE (by decide) j) = wt i q (first k) j) ∧ ∀ j : Fin 1024, 256 ≤ j.val → mwt i q k M j = 0 := by
  obtain ⟨r, rfl⟩ := hM
  have hs : ∀ j : Fin 256, ∃ t : ℝ, score q (first k) j = (t : EReal) ∧ (∑ d, q d * k (Fin.castLE (by decide) j) d) * scale = (t : EReal) :=
    fun j => score_eq (k := first k) hq (hk _ j.isLt)
  choose t ht ht' using hs
  let a : Fin 256 → ℝ := fun j => if j.val / 64 ≤ i / 64 then Real.exp (t j) else 0
  have ha : ∀ j, ex i q (first k) j = (a j : EReal) := fun j => by
    unfold ex
    simp only [a]
    split
    · rw [ht]; rfl
    · rfl
  have hb : ∀ j : Fin 256, mex i q k (r : EReal) (Fin.castLE (by decide) j) = ((a j * Real.exp (-r) : ℝ) : EReal) := fun j => by
    unfold mex mscore
    simp only [a, Fin.val_castLE]
    split
    · rw [ht', ← EReal.coe_sub, ← Real.exp_add, ← sub_eq_add_neg]; rfl
    · rw [EReal.bot_sub, zero_mul]; rfl
  have hz : ∀ j : Fin 1024, 256 ≤ j.val → mex i q k (r : EReal) j = 0 := fun j h => by
    unfold mex mscore
    rw [if_neg (unseen hi h), EReal.bot_sub]; rfl
  have hA : 0 < ∑ j, a j := Finset.sum_pos' (fun j _ => by simp only [a]; split <;> first | exact (Real.exp_pos _).le | exact le_rfl)
    ⟨0, Finset.mem_univ _, by simp only [a]; rw [if_pos (by simp)]; exact Real.exp_pos _⟩
  have e1 : ∑ j, ex i q (first k) j = ((∑ j, a j : ℝ) : EReal) := by rw [coe_sum]; exact Finset.sum_congr rfl fun j _ => ha j
  have e2 : ∑ j, mex i q k (r : EReal) j = (((∑ j, a j) * Real.exp (-r) : ℝ) : EReal) := by
    rw [sum_first hz, Finset.sum_mul, coe_sum]; exact Finset.sum_congr rfl fun j _ => hb j
  have hr := Real.exp_pos (-r)
  constructor
  · intro j
    unfold mwt wt
    rw [e1, e2, hb, ha, div_coe (mul_pos hA hr).ne', div_coe hA.ne', mul_div_mul_right _ _ hr.ne']
  · intro j h
    unfold mwt
    rw [e2, hz j h, ← EReal.coe_zero, div_coe (mul_pos hA hr).ne', zero_div]

include hi hq hk in
/-- **A column of the context by both forms.** -/
theorem ctx_eq {M : EReal} (hM : Fin' M) (v : Fin 1024 → EReal) :
    ∑ j, v j * mwt i q k M j = ∑ j, wt i q (first k) j * first v j := by
  obtain ⟨h1, h2⟩ := mwt_eq hi hq hk hM
  rw [sum_first fun j h => by rw [h2 j h, mul_zero]]
  exact Finset.sum_congr rfl fun j _ => by rw [h1, mul_comm]

end Main

/-! ## A row of the result -/

/-- Lane `d` of the head that column `e` belongs to. -/
def col (e : Fin 256) (d : Fin 64) : Fin 256 := ⟨64 * (e.val / 64) + d.val, by omega⟩

/-- One element of the result: query `i`'s row `x` projected, its four heads' contexts against a column of the last matrix. -/
def elt (i : ℕ) (x : Fin 512 → EReal) (wq : Fin 512 → Fin 256 → EReal) (k v : Fin 256 → Fin 256 → EReal) (wo : Fin 256 → EReal) : EReal :=
  ∑ e, (∑ j, wt i (fun d => ∑ l, x l * wq l (col e d)) (fun j d => k j (col e d)) j * v j e) * wo e

/-! ## A maximum taken by a fold -/

theorem foldl_max_cases (l : List EReal) (b : EReal) : l.foldl max b = b ∨ l.foldl max b ∈ l := by
  induction l generalizing b with
  | nil => exact .inl rfl
  | cons a l ih =>
    rcases ih (max b a) with h | h
    · rcases max_choice b a with h' | h'
      · exact .inl (h.trans h')
      · exact .inr (by rw [List.foldl_cons, h, h']; exact .head _)
    · exact .inr (.tail _ h)

theorem le_foldl_max {l : List EReal} {b x : EReal} (h : x ∈ l ∨ x ≤ b) : x ≤ l.foldl max b := by
  induction l generalizing b with
  | nil => exact h.resolve_left (by simp)
  | cons a l ih =>
    refine ih ?_
    rcases h with h | h
    · rcases List.mem_cons.mp h with rfl | h
      · exact .inr (le_max_right _ _)
      · exact .inl h
    · exact .inr (h.trans (le_max_left _ _))

/-- The fold of the maximum from `⊥` over values each finite or `⊥`, one of them finite, is finite. -/
theorem foldl_max_real {l : List EReal} (h : ∀ x ∈ l, x = ⊥ ∨ Fin' x) {x : EReal} (hx : x ∈ l) (hf : Fin' x) : Fin' (l.foldl max ⊥) := by
  have hle : x ≤ l.foldl max ⊥ := le_foldl_max (.inl hx)
  have hb : l.foldl max ⊥ ≠ ⊥ := fun e => by
    obtain ⟨r, rfl⟩ := hf
    rw [e] at hle
    exact absurd (le_bot_iff.mp hle) (EReal.coe_ne_bot r)
  exact ((h _ ((foldl_max_cases l ⊥).resolve_left hb)).resolve_left hb)

end Cert.Proof.Row

end
-- ==== Proof.Mask.lean ====
/-
  The block mask's words: an index divided by 64 and rounded down, as both programs compute it, and the comparison.
-/
module

public import Idealize.ShloMosaic.PureOps.Ideal.Laws
public import Idealize.ShloMosaic.Lib.ValueIdx

@[expose] public section

namespace Cert.Proof.Mask

open Idealize.ShloMosaic

/-- The quotient by 64, lowered by one where the signs `s` and 1 differ and a remainder is left. -/
def fdiv (u : ArithUnit) (s x : BitVec 32) : BitVec 32 :=
  Scalar.select (IntOp.andi (IntOp.cmpi .ne s 1#32) (IntOp.cmpi .ne (IntOp.remsi u x 64#32) 0#32))
    (IntOp.subi (IntOp.divsi u x 64#32) 1#32) (IntOp.divsi u x 64#32)

/-- A word's sign from two comparisons. -/
def sgnCmp (x : BitVec 32) : BitVec 32 :=
  IntOp.subi ((IntOp.cmpi .sgt x 0#32).setWidth 32) ((IntOp.cmpi .slt x 0#32).setWidth 32)
/-- A word's sign by cases. -/
def sgn (x : BitVec 32) : BitVec 32 := if x = 0 then 0 else if x.msb then -1 else 1

theorem fdiv_vector : ∀ n : Fin 256, fdiv .vector (sgnCmp (BitVec.ofNat 32 n.val)) (BitVec.ofNat 32 n.val) = BitVec.ofNat 32 (n.val / 64) := by
  decide +kernel
theorem fdiv_host : ∀ n : Fin 1024, fdiv .host (sgn (BitVec.ofNat 32 n.val)) (BitVec.ofNat 32 n.val) = BitVec.ofNat 32 (n.val / 64) := by
  decide +kernel

theorem sle_small : ∀ a b : Fin 16, IntOp.cmpi .sle (BitVec.ofNat 32 a.val) (BitVec.ofNat 32 b.val) = if a.val ≤ b.val then 1#1 else 0#1 := by
  decide +kernel
/-- Comparing two quotients. -/
theorem sle_apply {i j : ℕ} (hi : i < 1024) (hj : j < 1024) :
    IntOp.cmpi .sle (BitVec.ofNat 32 (j / 64)) (BitVec.ofNat 32 (i / 64)) = if j / 64 ≤ i / 64 then 1#1 else 0#1 :=
  sle_small ⟨j / 64, by omega⟩ ⟨i / 64, by omega⟩

end Cert.Proof.Mask
-- ==== Proof.KerVal.lean ====
/-
  The kernel's result read at an index: a row of the forms in Math.lean.
-/
module

public import proofs.«01_k».proof.Proof.Region
public import proofs.«01_k».proof.Proof.Math
public import proofs.«01_k».proof.Proof.Mask
public import Idealize.ShloMosaic.Lib.ValueIdx
public import Idealize.ShloMosaic.Lib.ValueLayoutCasts
public import Idealize.ShloMosaic.Lib.MatmulPlain

@[expose] public section

noncomputable section

namespace Cert.Proof

open Cert.KernelIdeal Cert.KernelIdeal.Gen
open Idealize.ShloMosaic Idealize.ShloMosaic.TcCoe Idealize.ShloMosaic.ValueIdx
open scoped BigOperators

/-! ## The mask -/

/-- The kernel's mask: query `i` sees key `j` when `j / 64 ≤ i / 64`. -/
theorem kmask_apply (i j : Fin 256) : kmask (ix2 i j) = if j.val / 64 ≤ i.val / 64 then 1#1 else 0#1 := by
  have h : kmask (ix2 i j) = IntOp.cmpi .sle
      (Mask.fdiv .vector (Mask.sgnCmp (iota .tc S256x256 32 [1] iota_S256x256_d1_w32 (ix2 i j))) (iota .tc S256x256 32 [1] iota_S256x256_d1_w32 (ix2 i j)))
      (Mask.fdiv .vector (Mask.sgnCmp (iota .tc S256x256 32 [0] iota_S256x256_d0_w32 (ix2 i j))) (iota .tc S256x256 32 [0] iota_S256x256_d0_w32 (ix2 i j))) := rfl
  rw [h, iota_single_apply, iota_single_apply]
  exact (congrArg₂ (IntOp.cmpi .sle) (Mask.fdiv_vector j) (Mask.fdiv_vector i)).trans (Mask.sle_apply (by omega) (by omega))

/-! ## One head's weights and context -/

section Head

variable (mk : IVec S256x256 1) (q : FVec Ideal S256x256 .f32) (k v : FVec Ideal S256x256 .bf16) (o : ℕ)
  (h : S256x256.Slices ![0, o] S256x64)

/-- One head's exponentials, zero off the mask. -/
def kex : FVec Ideal S256x256 .f32 :=
  select mk (exp (matmul dot_S256x64_S256x64_S256x256_1_1_0_0_n_n none (truncf .bf16 (extractStridedSlice S256x64 ![0, o] q h) bitsLt_bf16_f32)
    (extractStridedSlice S256x64 ![0, o] k h) (constant S256x256 .f32 0x00000000#32))) (broadcast S256x256 (Scalar.ofBits .f32 0x00000000#32))

/-- One head's weights from its exponentials. -/
def kwt (e : FVec Ideal S256x256 .f32) : FVec Ideal S256x256 .bf16 :=
  truncf .bf16 (divf e (broadcastTo S256x256 (shapeCast S256x1
    (multiReduction .add [1] S256 e 0x00000000#32 reduces_S256x256_S256 (.inl rfl) rfl) shapeCasts_S256_S256x1) broadcasts_S256x1_S256x256)) bitsLt_bf16_f32

/-- One head's context. -/
def kctx (w : FVec Ideal S256x256 .bf16) : FVec Ideal S256x64 .f32 :=
  matmul dot_S256x256_S256x64_S256x64_1_0_0_1_n_n none w (extractStridedSlice S256x64 ![0, o] v h) (constant S256x64 .f32 0x00000000#32)

variable (o' : Fin 64 → Fin 256) (ho : ∀ d, (o' d).val = o + d.val)

include ho in
theorem kex_apply (i j : Fin 256) (hm : mk (ix2 i j) = if j.val / 64 ≤ i.val / 64 then 1#1 else 0#1) (Q : Fin 64 → EReal)
    (hQ : ∀ d, q (ix2 i (o' d)) = Q d * Row.scale) :
    kex mk q k o h (ix2 i j) = Row.ex i.val Q (fun j d => k (ix2 j (o' d))) j := by
  unfold kex Row.ex Row.score
  rw [select_apply, hm]
  split
  · rw [select_one]
    refine congrArg Ideal.exp ?_
    refine (Ideal.matmul_transposedRhs_apply none _ _ _ i j).trans ?_
    rw [constant_apply, Ideal.ofBits_zero_f32, zero_add]
    refine Finset.sum_congr rfl fun d _ => ?_
    rw [truncf_apply, slice2_axis1_apply o q h i d (o' d) (ho d), slice2_axis1_apply o k h j d (o' d) (ho d), hQ]
  · rw [select_zero]
    exact Ideal.ofBits_zero_f32

theorem kwt_apply (e : FVec Ideal S256x256 .f32) (i j : Fin 256) :
    kwt e (ix2 i j) = Ideal.div (e (ix2 i j)) (∑ j', e (ix2 i j')) := by
  unfold kwt
  rw [truncf_apply, divf_apply]
  refine congrArg (Ideal.div _) ?_
  rw [broadcastTo_apply _ broadcasts_S256x1_S256x256 (ix2 i j) (ix2 i (0 : Fin 1)) (fun a => by match a with | ⟨0, _⟩ => rfl | ⟨1, _⟩ => rfl)]
  refine (shapeCast_a_a1_apply _ _ i 0).trans ?_
  refine (Ideal.multiReduction_add_single (a := 1) e _ _ _ _ _).trans ?_
  exact Finset.sum_congr rfl fun j' _ => congrArg e (funext fun a => Fin.ext (by match a with | ⟨0, _⟩ => rfl | ⟨1, _⟩ => rfl))

include ho in
theorem kctx_apply (w : FVec Ideal S256x256 .bf16) (i : Fin 256) (d : Fin 64) :
    kctx v o h w (ix2 i d) = ∑ j : Fin 256, w (ix2 i j) * v (ix2 j (o' d)) := by
  unfold kctx
  refine (Ideal.matmul_plain_apply none _ _ _ i d).trans ?_
  rw [constant_apply, Ideal.ofBits_zero_f32, zero_add]
  exact Finset.sum_congr rfl fun j _ => by rw [slice2_axis1_apply o v h j d (o' d) (ho d)]

end Head

/-! ## A batch entry's result -/

/-- The four heads' contexts side by side against the last matrix. -/
def kout (w : Fin 4 → FVec Ideal S256x256 .bf16) (v : FVec Ideal S256x256 .bf16) (wo : FVec Ideal S256x512 .bf16) : FVec Ideal S256x512 .f32 :=
  matmul dot_S256x256_S256x512_S256x512_1_0_0_1_n_n none
    (truncf .bf16 (concatenate S256x256 1 [⟨S256x64, kctx v 0 slices_S256x256_o0_0_S256x64 (w 0)⟩, ⟨S256x64, kctx v 64 slices_S256x256_o0_64_S256x64 (w 1)⟩,
        ⟨S256x64, kctx v 128 slices_S256x256_o0_128_S256x64 (w 2)⟩, ⟨S256x64, kctx v 192 slices_S256x256_o0_192_S256x64 (w 3)⟩]
      concatenates_S256x64_S256x64_S256x64_S256x64_S256x256_d1) bitsLt_bf16_f32) wo (constant S256x512 .f32 0x00000000#32)

/-- The head of a column. -/
def hd (e : Fin 256) : Fin 4 := ⟨e.val / 64, by omega⟩

/-- A column of the concatenation is a lane of its head's context. -/
theorem concat_apply (c : Fin 4 → FVec Ideal S256x64 .f32) (i e : Fin 256) (d : Fin 64) (he : e.val = 64 * (e.val / 64) + d.val) :
    concatenate S256x256 1 [⟨S256x64, c 0⟩, ⟨S256x64, c 1⟩, ⟨S256x64, c 2⟩, ⟨S256x64, c 3⟩]
      concatenates_S256x64_S256x64_S256x64_S256x64_S256x256_d1 (ix2 i e) = c (hd e) (ix2 i d) := by
  have hoff : ∀ b : Fin S256x64.rank, b.cast (rfl : S256x64.rank = S256x256.rank) ≠ 1 →
      ((ix2 i d : S256x64.Idx) b).val = ((ix2 i e : S256x256.Idx) (b.cast rfl)).val := fun b hb => by
    match b with
    | ⟨0, _⟩ => rfl
    | ⟨1, _⟩ => exact absurd rfl hb
  obtain ⟨h, hh⟩ : ∃ h, h = hd e := ⟨_, rfl⟩
  rw [← hh]
  have hv : h.val = e.val / 64 := by rw [hh]; rfl
  have h4 := h.isLt
  have hon : ∀ p : ℕ, p = 64 * h.val → p + ((ix2 i d : S256x64.Idx) 1).val = ((ix2 i e : S256x256.Idx) 1).val := fun p hp => by
    show p + d.val = e.val
    rw [hp, hv]; exact he.symm
  match h with
  | ⟨0, _⟩ => exact concatenate_apply_piece 1 [⟨S256x64, c 0⟩, ⟨S256x64, c 1⟩, ⟨S256x64, c 2⟩, ⟨S256x64, c 3⟩] _ (ix2 i e) 0 (by decide : 0 < 4) S256x64 (c 0) rfl rfl 0 rfl (ix2 i d) hoff (hon 0 rfl)
  | ⟨1, _⟩ => exact concatenate_apply_piece 1 [⟨S256x64, c 0⟩, ⟨S256x64, c 1⟩, ⟨S256x64, c 2⟩, ⟨S256x64, c 3⟩] _ (ix2 i e) 1 (by decide : 1 < 4) S256x64 (c 1) rfl rfl 64 rfl (ix2 i d) hoff (hon 64 rfl)
  | ⟨2, _⟩ => exact concatenate_apply_piece 1 [⟨S256x64, c 0⟩, ⟨S256x64, c 1⟩, ⟨S256x64, c 2⟩, ⟨S256x64, c 3⟩] _ (ix2 i e) 2 (by decide : 2 < 4) S256x64 (c 2) rfl rfl 128 rfl (ix2 i d) hoff (hon 128 rfl)
  | ⟨3, _⟩ => exact concatenate_apply_piece 1 [⟨S256x64, c 0⟩, ⟨S256x64, c 1⟩, ⟨S256x64, c 2⟩, ⟨S256x64, c 3⟩] _ (ix2 i e) 3 (by decide : 3 < 4) S256x64 (c 3) rfl rfl 192 rfl (ix2 i d) hoff (hon 192 rfl)

/-- Where each head's columns begin, and that they fit. -/
theorem slices_hd : ∀ h : Fin 4, S256x256.Slices ![0, 64 * h.val] S256x64
  | 0 => slices_S256x256_o0_0_S256x64
  | 1 => slices_S256x256_o0_64_S256x64
  | 2 => slices_S256x256_o0_128_S256x64
  | 3 => slices_S256x256_o0_192_S256x64

theorem kout_apply (w : Fin 4 → FVec Ideal S256x256 .bf16) (v : FVec Ideal S256x256 .bf16) (wo : FVec Ideal S256x512 .bf16) (i : Fin 256) (o : Fin 512) :
    kout w v wo (ix2 i o) = ∑ e : Fin 256, (∑ j : Fin 256, w (hd e) (ix2 i j) * v (ix2 j e)) * wo (ix2 e o) := by
  unfold kout
  refine (Ideal.matmul_plain_apply none _ _ _ i o).trans ?_
  rw [constant_apply, Ideal.ofBits_zero_f32, zero_add]
  refine Finset.sum_congr rfl fun e _ => ?_
  have hl : e.val % 64 < 64 := Nat.mod_lt _ (by decide)
  have he : e.val = 64 * (e.val / 64) + (⟨e.val % 64, hl⟩ : Fin 64).val := (Nat.div_add_mod e.val 64).symm
  have hc : Row.col e ⟨e.val % 64, hl⟩ = e := Fin.ext he.symm
  rw [truncf_apply]
  refine congrArg (· * _) ((concat_apply (fun h => kctx v (64 * h.val) (slices_hd h) (w h)) i e ⟨e.val % 64, hl⟩ he).trans ?_)
  refine (kctx_apply v (64 * (e.val / 64)) (slices_hd (hd e)) (Row.col e) (fun _ => rfl) (w (hd e)) i ⟨e.val % 64, hl⟩).trans ?_
  rw [hc]

/-- A batch entry's projected and scaled queries. -/
theorem kq_apply (x : Vec Ideal S1x256x512 .bf16) (wq : Vec Ideal S512x256 .bf16) (i e : Fin 256) :
    k0_pay7 (F := Ideal) x wq (ix2 i e) = (∑ l : Fin 512, x (ix3 (0 : Fin 1) i l) * wq (ix2 l e)) * Row.scale := by
  unfold k0_pay7
  rw [mulf_apply, shapeCast_self]
  refine congrArg₂ (· * ·) ?_ rfl
  refine (Ideal.matmul_plain_apply none _ _ _ i e).trans ?_
  rw [constant_apply, Ideal.ofBits_zero_f32, zero_add]
  exact Finset.sum_congr rfl fun l _ => congrArg (· * _) (shapeCast_1ab_ab_apply _ _ i l)

/-- A batch entry's result. -/
def kent (x : Vec Ideal S1x256x512 .bf16) (wq : Vec Ideal S512x256 .bf16) (k v : Vec Ideal S1x256x256 .bf16) (wo : Vec Ideal S256x512 .bf16) :
    FVec Ideal S1x256x512 .f32 :=
  shapeCast S1x256x512 (kout (fun h => kwt (kex kmask (k0_pay7 x wq) (k0_pay9 k) (64 * h.val) (slices_hd h))) (k0_pay9 v)
    (shapeCast S256x512 wo shapeCasts_S256x512_S256x512)) shapeCasts_S256x512_S1x256x512

theorem kent_apply (x : Vec Ideal S1x256x512 .bf16) (wq : Vec Ideal S512x256 .bf16) (k v : Vec Ideal S1x256x256 .bf16) (wo : Vec Ideal S256x512 .bf16)
    (i : Fin 256) (o : Fin 512) :
    kent x wq k v wo (ix3 (0 : Fin 1) i o) = Row.elt i.val (fun l => x (ix3 (0 : Fin 1) i l)) (fun l e => wq (ix2 l e))
      (fun j e => k (ix3 (0 : Fin 1) j e)) (fun j e => v (ix3 (0 : Fin 1) j e)) (fun e => wo (ix2 e o)) := by
  unfold kent Row.elt
  refine (shapeCast_ab_1ab_apply _ _ 0 i o).trans ?_
  rw [kout_apply, shapeCast_self]
  refine Finset.sum_congr rfl fun e _ => congrArg (· * _) (Finset.sum_congr rfl fun j _ => ?_)
  have hk : ∀ (y : Vec Ideal S1x256x256 .bf16) (j c : Fin 256), k0_pay9 y (ix2 j c) = y (ix3 (0 : Fin 1) j c) := fun y j c =>
    shapeCast_1ab_ab_apply y _ j c
  rw [hk, kwt_apply]
  unfold Row.wt
  have he : ∀ j : Fin 256, kex kmask (k0_pay7 x wq) (k0_pay9 k) (64 * (hd e).val) (slices_hd (hd e)) (ix2 i j)
      = Row.ex i.val (fun d => ∑ l : Fin 512, x (ix3 (0 : Fin 1) i l) * wq (ix2 l (Row.col e d))) (fun j d => k (ix3 (0 : Fin 1) j (Row.col e d))) j := fun j => by
    rw [kex_apply kmask (k0_pay7 x wq) (k0_pay9 k) (64 * (hd e).val) (slices_hd (hd e)) (Row.col e) (fun _ => rfl) i j (kmask_apply i j) _ (fun d => kq_apply x wq i _)]
    simp only [hk]
  simp only [he]

/-! ## The stored result -/

section Stored

variable (fx : CX Ideal) (fq : CWq Ideal) (fk : CK Ideal) (fv : CV Ideal) (fo : CWo Ideal) (g : CO Ideal)

theorem outc0_eq : outc0 fx fq fk fv fo = kent ((xM.access rx0).read (Elt Ideal) fx) ((wqM.access rwq).read (Elt Ideal) fq)
    (kc0 fk) (vc0 fv) ((woM.access rwo).read (Elt Ideal) fo) := rfl
theorem outc1_eq : outc1 fx fq fk fv fo = kent ((xM.access rx1).read (Elt Ideal) fx) ((wqM.access rwq).read (Elt Ideal) fq)
    (kc1 fk) (vc1 fv) ((woM.access rwo).read (Elt Ideal) fo) := rfl

theorem read_wq : (wqM.access rwq).read (Elt Ideal) fq = fq := Memref.read_access_unit_zero (Elt Ideal) cc0_stg1_0 (by funext a; fin_cases a <;> rfl) _ _
theorem read_wo : (woM.access rwo).read (Elt Ideal) fo = fo := Memref.read_access_unit_zero (Elt Ideal) cc0_stg4_0 (by funext a; fin_cases a <;> rfl) _ _

/-- **The kernel's result at an index.** -/
theorem outF_apply (b : Fin 2) (i : Fin 256) (o : Fin 512) :
    outF fx fq fk fv fo g (ix3 b i o) = Row.elt i.val (fun l => fx (ix3 b i l)) (fun l e => fq (ix2 l e))
      (fun j e => fk (ix3 b j e)) (fun j e => fv (ix3 b j e)) (fun e => fo (ix2 e o)) := by
  match b with
  | ⟨0, _⟩ =>
    have hi : (ix3 (0 : Fin 2) i o : S2x256x512.Idx) = (oM.access rx0).emb (ix3 (0 : Fin 1) i o) := funext fun a => Fin.ext (by
      match a with
      | ⟨0, _⟩ => rfl
      | ⟨1, _⟩ => exact (show i.val = 0 + 1 * i.val by omega)
      | ⟨2, _⟩ => exact (show o.val = 0 + 1 * o.val by omega))
    refine (congrArg _ hi).trans ((outF_0 fx fq fk fv fo g _).trans ?_)
    rw [outc0_eq, kent_apply, read_wq, read_wo]
    have e1 : ∀ (l : Fin 512), (xM.access rx0).read (Elt Ideal) fx (ix3 (0 : Fin 1) i l) = fx (ix3 (0 : Fin 2) i l) := fun l =>
      congrArg fx (funext fun a => Fin.ext (by
        match a with
        | ⟨0, _⟩ => rfl
        | ⟨1, _⟩ => exact (show 0 + 1 * i.val = i.val by omega)
        | ⟨2, _⟩ => exact (show 0 + 1 * l.val = l.val by omega)))
    have e2 : ∀ (f : CK Ideal) (j e : Fin 256), kc0 f (ix3 (0 : Fin 1) j e) = f (ix3 (0 : Fin 2) j e) := fun f j e =>
      congrArg f (funext fun a => Fin.ext (by
        match a with
        | ⟨0, _⟩ => rfl
        | ⟨1, _⟩ => exact (show 0 + 1 * j.val = j.val by omega)
        | ⟨2, _⟩ => exact (show 0 + 1 * e.val = e.val by omega)))
    have e3 : ∀ (j e : Fin 256), vc0 fv (ix3 (0 : Fin 1) j e) = fv (ix3 (0 : Fin 2) j e) := fun j e => e2 fv j e
    simp only [e1, e2, e3]
    rfl
  | ⟨1, _⟩ =>
    have hi : (ix3 (1 : Fin 2) i o : S2x256x512.Idx) = (oM.access rx1).emb (ix3 (0 : Fin 1) i o) := funext fun a => Fin.ext (by
      match a with
      | ⟨0, _⟩ => rfl
      | ⟨1, _⟩ => exact (show i.val = 0 + 1 * i.val by omega)
      | ⟨2, _⟩ => exact (show o.val = 0 + 1 * o.val by omega))
    refine (congrArg _ hi).trans ((outF_1 fx fq fk fv fo g _).trans ?_)
    rw [outc1_eq, kent_apply, read_wq, read_wo]
    have e1 : ∀ (l : Fin 512), (xM.access rx1).read (Elt Ideal) fx (ix3 (0 : Fin 1) i l) = fx (ix3 (1 : Fin 2) i l) := fun l =>
      congrArg fx (funext fun a => Fin.ext (by
        match a with
        | ⟨0, _⟩ => rfl
        | ⟨1, _⟩ => exact (show 0 + 1 * i.val = i.val by omega)
        | ⟨2, _⟩ => exact (show 0 + 1 * l.val = l.val by omega)))
    have e2 : ∀ (f : CK Ideal) (j e : Fin 256), kc1 f (ix3 (0 : Fin 1) j e) = f (ix3 (1 : Fin 2) j e) := fun f j e =>
      congrArg f (funext fun a => Fin.ext (by
        match a with
        | ⟨0, _⟩ => rfl
        | ⟨1, _⟩ => exact (show 0 + 1 * j.val = j.val by omega)
        | ⟨2, _⟩ => exact (show 0 + 1 * e.val = e.val by omega)))
    have e3 : ∀ (j e : Fin 256), vc1 fv (ix3 (0 : Fin 1) j e) = fv (ix3 (1 : Fin 2) j e) := fun j e => e2 fv j e
    simp only [e1, e2, e3]
    rfl

end Stored

end Cert.Proof

end
-- ==== Proof.RefVal.lean ====
/-
  The reference's result read at an index: the other form of Math.lean's rows.
-/
module

public import proofs.«01_k».proof.Proof.Gen.ReferenceIdeal.Run
public import proofs.«01_k».proof.Proof.Gen.ReferenceIdeal.Read
public import proofs.«01_k».proof.Proof.Math
public import proofs.«01_k».proof.Proof.Mask

@[expose] public section

noncomputable section

namespace Cert.Proof.RefVal

open Cert.ReferenceIdeal Cert.ReferenceIdeal.Gen Cert.ReferenceIdeal.Read
open Idealize.ShloMosaic Idealize.ShloMosaic.TcCoe Idealize.ShloMosaic.ValueIdx
open scoped BigOperators

/-! ## The mask -/

theorem sgn_64 : Mask.sgn 64#32 = 1#32 := by decide
theorem v8_apply (n : Fin 256) : val_main_v8 (F := Ideal) (ix1 n) = BitVec.ofNat 32 (n.val / 64) := by
  have h1 : ∀ i, val_main_call0_v4 (F := Ideal) i = 1#32 := fun _ => sgn_64
  have h2 : val_main_call0_v3 (F := Ideal) (ix1 n) = Mask.sgn (BitVec.ofNat 32 n.val) := rfl
  rw [val_main_v8_apply, val_main_call0_v11_apply, val_main_call0_v13_apply, val_main_call0_v6_apply, val_main_call0_v10_apply, val_main_call0_v8_apply, val_main_call0_v2_apply, val_main_call0_v7_apply, val_main_call0_v9_apply, val_main_call0_v5_apply, val_main_call0_v1_apply, val_main_call0_v12_apply, val_main_call0_v0_apply, h1, h2]
  exact Mask.fdiv_host ⟨n.val, by omega⟩
theorem v11_apply (n : Fin 1024) : val_main_v11 (F := Ideal) (ix1 n) = BitVec.ofNat 32 (n.val / 64) := by
  have h1 : ∀ i, val_main_call1_v4 (F := Ideal) i = 1#32 := fun _ => sgn_64
  have h2 : val_main_call1_v3 (F := Ideal) (ix1 n) = Mask.sgn (BitVec.ofNat 32 n.val) := rfl
  rw [val_main_v11_apply, val_main_call1_v11_apply, val_main_call1_v13_apply, val_main_call1_v6_apply, val_main_call1_v10_apply, val_main_call1_v8_apply, val_main_call1_v2_apply, val_main_call1_v7_apply, val_main_call1_v9_apply, val_main_call1_v5_apply, val_main_call1_v1_apply, val_main_call1_v12_apply, val_main_call1_v0_apply, h1, h2]
  exact Mask.fdiv_host n

/-- The reference's mask: query `i` sees key `j` when `j / 64 ≤ i / 64`. -/
theorem mask_apply (i : Fin 256) (j : Fin 1024) : val_main_v15 (F := Ideal) (ix2 i j) = if j.val / 64 ≤ i.val / 64 then 1#1 else 0#1 := by
  rw [val_main_v15_apply, val_main_v13_apply, val_main_v12_apply, val_main_v14_apply, val_main_v9_apply]
  have e1 : idx_main_v12 (idx_main_v13 (ix2 i j)) = ix1 j := funext fun a => by match a with | ⟨0, _⟩ => rfl
  have e2 : idx_main_v9 (idx_main_v14 (ix2 i j)) = ix1 i := funext fun a => by match a with | ⟨0, _⟩ => rfl
  rw [e1, e2, v8_apply, v11_apply]
  exact Mask.sle_apply (by omega) j.isLt

theorem foldl_ori_one {l : List (BitVec 1)} {b : BitVec 1} (h : 1#1 ∈ l ∨ b = 1#1) : l.foldl IntOp.ori b = 1#1 := by
  induction l generalizing b with
  | nil => exact h.resolve_left (by simp)
  | cons a l ih =>
    refine ih ?_
    have ho : ∀ a b : BitVec 1, (a = 1#1 ∨ b = 1#1) → IntOp.ori b a = 1#1 := by decide
    rcases h with h | h
    · rcases List.mem_cons.mp h with h | h
      · exact .inr (ho a b (.inl h.symm))
      · exact .inl h
    · exact .inr (ho a b (.inr h))

/-- Every query sees the first key. -/
theorem keep_apply (i : Fin 256) : val_main_v26 (F := Ideal) (ix1 i) = 1#1 := by
  unfold val_main_v26 Host.reduce
  rw [← List.foldl_map (f := fun n => val_main_v15 (F := Ideal) (S256x1024.rowMajor.symm n)) (g := IntOp.ori)]
  refine foldl_ori_one (.inl (List.mem_map.mpr ⟨S256x1024.rowMajor (ix2 i (0 : Fin 1024)), List.mem_filter.mpr ⟨List.mem_finRange _, ?_⟩, ?_⟩))
  · rw [Equiv.symm_apply_apply, decide_eq_true_eq]
    exact funext fun a => Fin.ext (by
      match a with
      | ⟨0, _⟩ => exact Shape.ReducesTo.drop_apply_val_of_eq reducesTo_S256x1024_S256_d1 (ix2 i (0 : Fin 1024)) 0 0)
  · rw [Equiv.symm_apply_apply, mask_apply, if_pos (by simp)]

/-! ## Scores -/

variable (x0 : (⟨S2x256x512, .bf16⟩ : BufTy).Contents (Elt Ideal)) (x1 : (⟨S512x256, .bf16⟩ : BufTy).Contents (Elt Ideal))
  (x2 x3 : (⟨S2x1024x4x64, .bf16⟩ : BufTy).Contents (Elt Ideal)) (x4 : (⟨S256x512, .bf16⟩ : BufTy).Contents (Elt Ideal))

/-- Lane `d` of head `h`. -/
def lane (h : Fin 4) (d : Fin 64) : Fin 256 := ⟨64 * h.val + d.val, by omega⟩
/-- A head's projected query. -/
def rq (b : Fin 2) (i : Fin 256) (h : Fin 4) (d : Fin 64) : EReal := ∑ l : Fin 512, x0 (ix3 b i l) * x1 (ix2 l (lane h d))
/-- A head's keys. -/
def rk (b : Fin 2) (h : Fin 4) (j : Fin 1024) (d : Fin 64) : EReal := x2 (ix4 b j h d)

theorem v6_apply (b : Fin 2) (i : Fin 256) (h : Fin 4) (d : Fin 64) : val_main_v6 (F := Ideal) x0 x1 (ix4 b i h d) = rq x0 x1 b i h d := by
  rw [val_main_v6_apply, val_main_v5_apply]
  have e : idx_main_v6 (ix4 b i h d) = ix3 b i (lane h d) := funext fun a => Fin.ext (by
    match a with
    | ⟨0, _⟩ => exact (show (((b.val * 256 + i.val) * 4 + h.val) * 64 + d.val) / 65536 = b.val by omega)
    | ⟨1, _⟩ => exact (show (((b.val * 256 + i.val) * 4 + h.val) * 64 + d.val) / 256 % 256 = i.val by omega)
    | ⟨2, _⟩ => exact (show (((b.val * 256 + i.val) * 4 + h.val) * 64 + d.val) % 256 = 64 * h.val + d.val by omega))
  rw [e]
  refine Finset.sum_congr rfl fun l _ => congrArg₂ (· * ·) (congrArg x0 ?_) (congrArg x1 ?_)
  · exact funext fun a => by match a with | ⟨0, _⟩ => rfl | ⟨1, _⟩ => rfl | ⟨2, _⟩ => rfl
  · exact funext fun a => by match a with | ⟨0, _⟩ => rfl | ⟨1, _⟩ => rfl

theorem score_apply (b : Fin 2) (h : Fin 4) (i : Fin 256) (j : Fin 1024) :
    val_main_v20 (F := Ideal) x0 x1 x2 (ix4 b h i j) = Row.mscore i.val (rq x0 x1 b i h) (rk x2 b h) j := by
  rw [val_main_v20_apply, val_main_call2_v1_apply, val_main_v19_apply]
  have e : idx_main_v19 (idx_main_call2_v1 (ix4 b h i j)) = ix2 i j := funext fun a => by match a with | ⟨0, _⟩ => rfl | ⟨1, _⟩ => rfl
  rw [e, mask_apply]
  unfold Row.mscore
  split
  · rw [select_one, val_main_v18_apply, val_main_v16_apply]
    refine congrArg₂ (· * ·) (Finset.sum_congr rfl fun d _ => congrArg₂ (· * ·) ?_ (congrArg x2 ?_)) ?_
    · refine (congrArg _ (funext fun a => ?_)).trans (v6_apply x0 x1 b i h d)
      match a with | ⟨0, _⟩ => rfl | ⟨1, _⟩ => rfl | ⟨2, _⟩ => rfl | ⟨3, _⟩ => rfl
    · exact funext fun a => by match a with | ⟨0, _⟩ => rfl | ⟨1, _⟩ => rfl | ⟨2, _⟩ => rfl | ⟨3, _⟩ => rfl
    · rw [val_main_v17_apply]; rfl
  · rw [select_zero, val_main_call2_v2_apply]
    exact (show Ideal.ofBits .f32 0xFF800000#32 = ⊥ by simp [Ideal.ofBits, Ideal.ieee])

/-! ## Weights -/

section Weights

variable (hq : ∀ b i h d, Row.Fin' (rq x0 x1 b i h d)) (hk : ∀ b h (j : Fin 1024), j.val < 256 → ∀ d, Row.Fin' (rk x2 b h j d))

/-- A row's maximum. -/
def rmax (b : Fin 2) (h : Fin 4) (i : Fin 256) : EReal := val_main_v21 (F := Ideal) x0 x1 x2 (ix3 b h i)

include hq hk in
theorem rmax_real (b : Fin 2) (h : Fin 4) (i : Fin 256) : Row.Fin' (rmax x0 x1 x2 b h i) := by
  unfold rmax val_main_v21 Host.reduce
  change Row.Fin' (List.foldl (fun (r : EReal) n => max r (val_main_v20 (F := Ideal) x0 x1 x2 (S2x4x256x1024.rowMajor.symm n))) _ _)
  rw [← List.foldl_map (f := fun n => val_main_v20 (F := Ideal) x0 x1 x2 (S2x4x256x1024.rowMajor.symm n)) (g := max)]
  have hb : val_main_cst_2 (F := Ideal) (Shape.Idx.first h_S_) = (⊥ : EReal) :=
    (show Ideal.ofBits .f32 0xFF800000#32 = ⊥ by simp [Ideal.ofBits, Ideal.ieee])
  rw [hb]
  refine Row.foldl_max_real (fun x hx => ?_)
    (List.mem_map.mpr ⟨S2x4x256x1024.rowMajor (ix4 b h i (0 : Fin 1024)), List.mem_filter.mpr ⟨List.mem_finRange _, ?_⟩, rfl⟩) ?_
  · obtain ⟨n, hn, rfl⟩ := List.mem_map.mp hx
    have hd := of_decide_eq_true (List.mem_filter.mp hn).2
    obtain ⟨t, ht⟩ : ∃ t, t = S2x4x256x1024.rowMajor.symm n := ⟨_, rfl⟩
    rw [← ht] at hd ⊢
    have h0 : (ix3 b h i : S2x4x256.Idx) 0 = t 0 := by
      rw [← hd]; exact Fin.ext (Shape.ReducesTo.drop_apply_val_of_eq reducesTo_S2x4x256x1024_S2x4x256_d3 t 0 0)
    have h1 : (ix3 b h i : S2x4x256.Idx) 1 = t 1 := by
      rw [← hd]; exact Fin.ext (Shape.ReducesTo.drop_apply_val_of_eq reducesTo_S2x4x256x1024_S2x4x256_d3 t 1 1)
    have h2 : (ix3 b h i : S2x4x256.Idx) 2 = t 2 := by
      rw [← hd]; exact Fin.ext (Shape.ReducesTo.drop_apply_val_of_eq reducesTo_S2x4x256x1024_S2x4x256_d3 t 2 2)
    have e : t = ix4 b h i (t 3) := funext fun a => by
      match a with
      | ⟨0, _⟩ => exact h0.symm
      | ⟨1, _⟩ => exact h1.symm
      | ⟨2, _⟩ => exact h2.symm
      | ⟨3, _⟩ => rfl
    rw [(congrArg (val_main_v20 (F := Ideal) x0 x1 x2) e).trans (score_apply x0 x1 x2 b h i (t 3))]
    exact Row.mscore_cases i.isLt (hq b i h) (hk b h) _
  · rw [Equiv.symm_apply_apply, decide_eq_true_eq]
    exact funext fun a => Fin.ext (by
      match a with
      | ⟨0, _⟩ => exact Shape.ReducesTo.drop_apply_val_of_eq reducesTo_S2x4x256x1024_S2x4x256_d3 (ix4 b h i (0 : Fin 1024)) 0 0
      | ⟨1, _⟩ => exact Shape.ReducesTo.drop_apply_val_of_eq reducesTo_S2x4x256x1024_S2x4x256_d3 (ix4 b h i (0 : Fin 1024)) 1 1
      | ⟨2, _⟩ => exact Shape.ReducesTo.drop_apply_val_of_eq reducesTo_S2x4x256x1024_S2x4x256_d3 (ix4 b h i (0 : Fin 1024)) 2 2)
  · rw [Equiv.symm_apply_apply, score_apply]
    exact Row.mscore_zero (hq b i h) (hk b h)

theorem mex_apply (b : Fin 2) (h : Fin 4) (i : Fin 256) (j : Fin 1024) :
    val_main_v25 (F := Ideal) x0 x1 x2 (ix4 b h i j) = Row.mex i.val (rq x0 x1 b i h) (rk x2 b h) (rmax x0 x1 x2 b h i) j := by
  rw [val_main_v25_apply, val_main_v24_apply, val_main_v23_apply, val_main_v22_apply, score_apply]
  unfold Row.mex rmax
  have e : idx_main_v22 (idx_main_v23 (ix4 b h i j)) = ix3 b h i := funext fun a => by match a with | ⟨0, _⟩ => rfl | ⟨1, _⟩ => rfl | ⟨2, _⟩ => rfl
  rw [e]
  rfl

theorem weight_apply (b : Fin 2) (h : Fin 4) (i : Fin 256) (j : Fin 1024) :
    val_main_v34 (F := Ideal) x0 x1 x2 (ix4 b h i j) = Row.mwt i.val (rq x0 x1 b i h) (rk x2 b h) (rmax x0 x1 x2 b h i) j := by
  rw [val_main_v34_apply, val_main_call4_v1_apply, val_main_v33_apply]
  have e1 : idx_main_v33 (idx_main_call4_v1 (ix4 b h i j)) = ix1 i := funext fun a => by match a with | ⟨0, _⟩ => rfl
  rw [e1, keep_apply, select_one, val_main_v32_apply, val_main_v31_apply, val_main_v30_apply, val_main_call3_v1_apply, val_main_v27_apply]
  have e2 : idx_main_v27 (idx_main_call3_v1 (idx_main_v31 (ix4 b h i j))) = ix1 i := funext fun a => by match a with | ⟨0, _⟩ => rfl
  rw [e2, keep_apply, select_one, val_main_v29_apply, val_main_v28_apply, mex_apply]
  refine congrArg (Ideal.div _) ?_
  have hz : val_main_cst_4 (F := Ideal) (Shape.Idx.first h_S_) = (0 : EReal) := Ideal.ofBits_zero_f32
  rw [hz, zero_add]
  refine Finset.sum_congr rfl fun k _ => ?_
  rw [← mex_apply]
  exact congrArg _ (funext fun a => by match a with | ⟨0, _⟩ => rfl | ⟨1, _⟩ => rfl | ⟨2, _⟩ => rfl | ⟨3, _⟩ => rfl)

/-! ## The result -/

theorem ctx_apply (b : Fin 2) (i : Fin 256) (h : Fin 4) (d : Fin 64) :
    val_main_v36 (F := Ideal) x0 x1 x2 x3 (ix4 b i h d)
      = ∑ j : Fin 1024, x3 (ix4 b j h d) * Row.mwt i.val (rq x0 x1 b i h) (rk x2 b h) (rmax x0 x1 x2 b h i) j := by
  rw [val_main_v36_apply, val_main_v35_apply]
  refine Finset.sum_congr rfl fun j _ => congrArg₂ (· * ·) (congrArg x3 ?_) ?_
  · exact funext fun a => by match a with | ⟨0, _⟩ => rfl | ⟨1, _⟩ => rfl | ⟨2, _⟩ => rfl | ⟨3, _⟩ => rfl
  · rw [← weight_apply]
    exact congrArg _ (funext fun a => by match a with | ⟨0, _⟩ => rfl | ⟨1, _⟩ => rfl | ⟨2, _⟩ => rfl | ⟨3, _⟩ => rfl)

/-- A key's or a value's column among the four heads. -/
def keys (x : (⟨S2x1024x4x64, .bf16⟩ : BufTy).Contents (Elt Ideal)) (b : Fin 2) (j : Fin 256) (e : Fin 256) : EReal :=
  x (ix4 b (Fin.castLE (by decide) j : Fin 1024) (⟨e.val / 64, by omega⟩ : Fin 4) (⟨e.val % 64, Nat.mod_lt _ (by decide)⟩ : Fin 64))

include hq hk in
/-- **The reference's result at an index.** -/
theorem out_apply (b : Fin 2) (i : Fin 256) (o : Fin 512) :
    val_main_v38 (F := Ideal) x0 x1 x2 x3 x4 (ix3 b i o) = Row.elt i.val (fun l => x0 (ix3 b i l)) (fun l e => x1 (ix2 l e))
      (keys x2 b) (keys x3 b) (fun e => x4 (ix2 e o)) := by
  rw [val_main_v38_apply]
  unfold Row.elt
  refine Finset.sum_congr rfl fun e _ => congrArg₂ (· * ·) ?_ (congrArg x4 ?_)
  · rw [val_main_v37_apply]
    have he : idx_main_v37 (lidx_main_v38 (ix3 b i o) e) = ix4 b i (⟨e.val / 64, by omega⟩ : Fin 4) (⟨e.val % 64, Nat.mod_lt _ (by decide)⟩ : Fin 64) :=
      funext fun a => Fin.ext (by
        match a with
        | ⟨0, _⟩ => exact (show ((b.val * 256 + i.val) * 256 + e.val) / 65536 = b.val by omega)
        | ⟨1, _⟩ => exact (show ((b.val * 256 + i.val) * 256 + e.val) / 256 % 256 = i.val by omega)
        | ⟨2, _⟩ => exact (show ((b.val * 256 + i.val) * 256 + e.val) / 64 % 4 = e.val / 64 by omega)
        | ⟨3, _⟩ => exact (show ((b.val * 256 + i.val) * 256 + e.val) % 64 = e.val % 64 by omega))
    rw [he, ctx_apply, Row.ctx_eq i.isLt (hq b i _) (hk b _) (rmax_real x0 x1 x2 hq hk b _ i)
      (fun j => x3 (ix4 b j (⟨e.val / 64, by omega⟩ : Fin 4) (⟨e.val % 64, Nat.mod_lt _ (by decide)⟩ : Fin 64)))]
    refine Finset.sum_congr rfl fun j _ => congrArg (· * _) ?_
    refine congrArg (fun k => Row.wt i.val _ k j) (funext fun j' => funext fun d => ?_)
    refine congrArg x2 (funext fun a => Fin.ext ?_)
    match a with
    | ⟨0, _⟩ => rfl
    | ⟨1, _⟩ => rfl
    | ⟨2, _⟩ => exact (show e.val / 64 = (64 * (e.val / 64) + d.val) / 64 by omega)
    | ⟨3, _⟩ => exact (show d.val = (64 * (e.val / 64) + d.val) % 64 by omega)
  · exact funext fun a => by match a with | ⟨0, _⟩ => rfl | ⟨1, _⟩ => rfl

end Weights

end Cert.Proof.RefVal

end
-- ==== Proof.Agree.lean ====
/-
  The two programs' results are one array: the kernel's stored rows and the reference's, index by index.
-/
module

public import proofs.«01_k».proof.Defs
public import proofs.«01_k».proof.Proof.Gen.KernelIdeal
public import proofs.«01_k».proof.Proof.Gen.ReferenceIdeal
public import proofs.«01_k».proof.Proof.Launch
public import proofs.«01_k».proof.Proof.KerVal
public import proofs.«01_k».proof.Proof.RefVal
public import Idealize.ShloMosaic.Lib.Claim

@[expose] public section

noncomputable section

namespace Cert.Proof

open Cert.KernelIdeal Cert.KernelIdeal.Gen
open Idealize.ShloMosaic Idealize.ShloMosaic.TcCoe Idealize.ShloMosaic.ValueIdx Idealize.SL.Sem
open scoped BigOperators

/-! ## The kernel's key and value arrays -/

section Arrays

variable {F : FTy → Type} [FloatOps F] (m : (ℓ : Loc nD τ sig) → Buf (Elt F) ℓ)

theorem keys_eq : KK m = shapeCast S2x256x256 (m (((0 : Dev nD) : Thread nD τ).loc main_arg2)) shapeCasts_S2x256x4x64_S2x256x256 := by
  unfold KK
  unfold_abbrev_sides
  after_results
  rfl
theorem values_eq : VV m = shapeCast S2x256x256 (m (((0 : Dev nD) : Thread nD τ).loc main_arg3)) shapeCasts_S2x256x4x64_S2x256x256 := by
  unfold VV
  unfold_abbrev_sides
  after_results
  rfl

end Arrays

/-- Column `e` of the flattened heads is lane `e % 64` of head `e / 64`. -/
theorem heads_apply {α : Type} (f : S2x256x4x64.Idx → α) (b : Fin 2) (j e : Fin 256) :
    shapeCast S2x256x256 f shapeCasts_S2x256x4x64_S2x256x256 (ix3 b j e)
      = f (ix4 b j (⟨e.val / 64, by omega⟩ : Fin 4) (⟨e.val % 64, Nat.mod_lt _ (by decide)⟩ : Fin 64)) :=
  shapeCast_apply f _ _ _ (by
    rw [Shape.rowMajor_val_four, Shape.rowMajor_val_three]
    exact (show ((b.val * 256 + j.val) * 4 + e.val / 64) * 64 + e.val % 64 = (b.val * 256 + j.val) * 256 + e.val by omega))

/-! ## The precondition -/

instance pre_kernel : Cert.Pre_finite_scores_KernelIdeal.Facts := ⟨by decide, by decide, by decide⟩
instance pre_reference : Cert.Pre_finite_scores_ReferenceIdeal.Facts := ⟨by decide, by decide, by decide⟩

/-- A value whose absolute value compares below infinity is finite. -/
theorem fin_of_cmp {x : EReal} (h : Ideal.cmp .olt (max x (-x)) (Ideal.ofBits .bf16 0x7F80#16) = 1#1) : Row.Fin' x := by
  have ht : Ideal.ofBits .bf16 0x7F80#16 = ⊤ := by simp [Ideal.ofBits, Ideal.ieee]
  rw [ht] at h
  refine Row.Fin'.of_abs ?_
  by_contra hn
  simp [Ideal.cmp, hn] at h

/-! ## The agreement -/

/-- Device 0's block of an array of keys or values is the array's first 256. -/
theorem block_first (f : Cert.ReferenceIdeal.S2x1024x4x64.Idx → EReal) (b : Fin 2) (j : Fin 256) (h : Fin 4) (d : Fin 64) :
    Layout.block ⟨4, ![2, 256, 4, 64]⟩ ⟨4, ![2, 1024, 4, 64]⟩ 1 4 0 f (by decide) (ix4 b j h d) = f (ix4 b (Fin.castLE (by decide) j : Fin 1024) h d) := by
  rw [Layout.block_apply]
  refine congrArg f (funext fun a => Fin.ext ?_)
  match a with
  | ⟨0, _⟩ => rfl
  | ⟨1, _⟩ => exact (show 0 * 256 + j.val = j.val by omega)
  | ⟨2, _⟩ => rfl
  | ⟨3, _⟩ => rfl

theorem algebraic : Cert.algebraic_KernelIdeal_ReferenceIdeal_pre_finite_scores_KernelIdeal := by
  intro m g m' g' hpre hag
  refine ⟨Cert.ReferenceIdeal.Value.res_main_v38 m' 0, (θ_run Cert.KernelIdeal.defs _ _).mono (fun r h c => ?_) (run_main (F := Ideal) m g),
    (θ_run Cert.ReferenceIdeal.defs _ _).mono (fun r h => h 0) (Cert.ReferenceIdeal.Value.run (F := Ideal) m' g')⟩
  obtain ⟨e0, e1, e2, e3, e4, eo⟩ := h.1 c
  refine ⟨eo.trans ?_, e0, e1, e2, e3, e4⟩
  obtain ⟨a0, a1, -, -, a4⟩ := hag c
  obtain ⟨b0, b1, b2, b3, -⟩ := hag 0
  obtain ⟨p0, p1, p2⟩ := hpre 0
  rw [Cert.ReferenceIdeal.Read.val_main_v38_eq]
  unfold outV
  rw [V_main_arg0, V_main_arg1, V_main_arg4, a0, a1, a4, keys_eq, values_eq, b2, b3]
  have f0 : ∀ i, Row.Fin' (m' (((0 : Dev Cert.ReferenceIdeal.nD).tc : Thread Cert.ReferenceIdeal.nD Cert.ReferenceIdeal.τ).loc Cert.ReferenceIdeal.main_arg0) i) := fun i => by
    rw [← b0]; exact fin_of_cmp (congrFun p0 i)
  have f1 : ∀ i, Row.Fin' (m' (((0 : Dev Cert.ReferenceIdeal.nD).tc : Thread Cert.ReferenceIdeal.nD Cert.ReferenceIdeal.τ).loc Cert.ReferenceIdeal.main_arg1) i) := fun i => by
    rw [← b1]; exact fin_of_cmp (congrFun p1 i)
  have f2 : ∀ (b : Fin 2) (j : Fin 256) (h : Fin 4) (d : Fin 64), Row.Fin' (m' (((0 : Dev Cert.ReferenceIdeal.nD).tc : Thread Cert.ReferenceIdeal.nD Cert.ReferenceIdeal.τ).loc Cert.ReferenceIdeal.main_arg2) (ix4 b (Fin.castLE (by decide) j : Fin 1024) h d)) := fun b j h d => by
    exact ((congrFun b2 (ix4 b j h d)).trans (block_first _ b j h d)) ▸ fin_of_cmp (congrFun p2 (ix4 b j h d))
  refine funext fun i => ?_
  obtain ⟨b, q, o, rfl⟩ : ∃ (b : Fin 2) (q : Fin 256) (o : Fin 512), i = ix3 b q o := ⟨i 0, i 1, i 2, eq_ix3 i⟩
  refine (outF_apply _ _ _ _ _ _ b q o).trans (Eq.trans ?_ (RefVal.out_apply _ _ _ _ _
    (fun b i h d => Row.Fin'.sum fun l => (f0 _).mul (f1 _)) (fun b h j hj d => f2 b ⟨j.val, hj⟩ h d) b q o).symm)
  have hk : ∀ (f : Cert.ReferenceIdeal.S2x1024x4x64.Idx → EReal), (fun (j e : Fin 256) => shapeCast S2x256x256
      (Layout.block ⟨4, ![2, 256, 4, 64]⟩ ⟨4, ![2, 1024, 4, 64]⟩ 1 4 0 f (by decide)) shapeCasts_S2x256x4x64_S2x256x256 (ix3 b j e)) = RefVal.keys f b := fun f =>
    funext fun j => funext fun e => (heads_apply _ b j e).trans (block_first f b j _ _)
  exact congrArg₂ (fun k v => Row.elt q.val _ _ k v _) (hk _) (hk _)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Agree

@[expose] public section

noncomputable section

namespace Cert.Proof

open Idealize.ShloMosaic Idealize.SL.Sem

/-- The printed kernel has the text of its ideal reading: at any floats the two run alike. -/
theorem runs_alike (m : (ℓ : Loc Cert.KernelIdeal.nD Cert.KernelIdeal.τ Cert.KernelIdeal.sig) → Buf (Elt Bits) ℓ)
    (ρ : Dev Cert.KernelIdeal.nD → PrngReg)
    (Q : PUnit × MemSt Cert.KernelIdeal.nD Cert.KernelIdeal.τ Cert.KernelIdeal.sig (Elt Bits) → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits)))
          ⟨m, fun _ => 0, ρ⟩ Q := by
  chain_rfl

/-- So the run, made once for any floats, is taken at bits. -/
theorem frame_kernel : Cert.quiescent_Kernel := fun m ρ _ =>
  (runs_alike m ρ _).mpr ((θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Bits) m ρ))

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A frame holds of every memory, so of those the precondition admits. -/
theorem claim : Cert.Claim := ⟨Cert.Kernel.Gen.facts, Cert.KernelIdeal.Gen.facts, Cert.ReferenceIdeal.Gen.facts, pre_kernel, pre_reference,
  frame_kernel, frame_ideal, fun m ρ _ => frame_ideal m ρ trivial, frame_reference, fun m ρ _ => frame_reference m ρ trivial, trivial, algebraic⟩

end Cert.Proof

end
